-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1024x32 : Shape := ⟨2, ![1024, 32]⟩
abbrev S1024 : Shape := ⟨1, ![1024]⟩
abbrev S20x6144 : Shape := ⟨2, ![20, 6144]⟩
abbrev S20x32x6144 : Shape := ⟨3, ![20, 32, 6144]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x32 .f32) (main_arg1 : IVec S1024 32) (main_arg2 : FVec F S20x6144 .f32) (main_arg3 : FVec F S20x32x6144 .f32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 1 := constantI S_ 1 1#1
  let main_v2 : IVec S_ 1 := (fun x v => Host.reduce IntOp.andi x v reducesTo_S1024_S_d0 h_S_) main_v1 main_c_0
  let main_c_1 : IVec S_ 32 := constantI S_ 32 20#32
  let main_v3 : IVec S1024 32 := broadcastInDim S1024 ![] bcast_S_S1024 main_c_1
  let main_v4 : IVec S1024 1 := cmpi .slt main_arg1 main_v3
  let main_c_2 : IVec S_ 1 := constantI S_ 1 1#1
  let main_v5 : IVec S_ 1 := (fun x v => Host.reduce IntOp.andi x v reducesTo_S1024_S_d0 h_S_) main_v4 main_c_2
  let main_v6 : IVec S_ 1 := andi main_v2 main_v5
  main_v6
-- ==== Kernel.lean ====
abbrev S1024x32 : Shape := ⟨2, ![1024, 32]⟩
abbrev S1024 : Shape := ⟨1, ![1024]⟩
abbrev S20x6144 : Shape := ⟨2, ![20, 6144]⟩
abbrev S20x32x6144 : Shape := ⟨3, ![20, 32, 6144]⟩
abbrev S640x6144 : Shape := ⟨2, ![640, 6144]⟩
abbrev S1024x1 : Shape := ⟨2, ![1024, 1]⟩
abbrev S_ : Shape := ⟨0, ![]⟩
abbrev S32x6144 : Shape := ⟨2, ![32, 6144]⟩
abbrev S1024x6144 : Shape := ⟨2, ![1024, 6144]⟩
abbrev S1024x672 : Shape := ⟨2, ![1024, 672]⟩
abbrev S4x672x1024 : Shape := ⟨3, ![4, 672, 1024]⟩
abbrev S4x1024x1024 : Shape := ⟨3, ![4, 1024, 1024]⟩
abbrev S4x2 : Shape := ⟨2, ![4, 2]⟩
abbrev S4 : Shape := ⟨1, ![4]⟩
abbrev S1x1 : Shape := ⟨2, ![1, 1]⟩
abbrev S1x320x1024 : Shape := ⟨3, ![1, 320, 1024]⟩
abbrev S320x1024 : Shape := ⟨2, ![320, 1024]⟩
abbrev S1 : Shape := ⟨1, ![1]⟩
abbrev S1x32x1024 : Shape := ⟨3, ![1, 32, 1024]⟩
abbrev S32x1024 : Shape := ⟨2, ![32, 1024]⟩
abbrev S1x672x1024 : Shape := ⟨3, ![1, 672, 1024]⟩
abbrev S672x1024 : Shape := ⟨2, ![672, 1024]⟩
abbrev S1024x1024 : Shape := ⟨2, ![1024, 1024]⟩
abbrev S1x1024x1024 : Shape := ⟨3, ![1, 1024, 1024]⟩
abbrev S512x1024 : Shape := ⟨2, ![512, 1024]⟩
abbrev S1x512x1024 : Shape := ⟨3, ![1, 512, 1024]⟩

abbrev nBuf : Space → Nat
  | .hbm => 10
  | .vmem => 5
  | .smem => 0
  | _ => 0

abbrev bufTy : (tb : Table) → Fin (tcTables nBuf tb) → BufTy
  | .hbm, ⟨0, _⟩ => ⟨S1024x32, .f32⟩
  | .hbm, ⟨1, _⟩ => ⟨S1024, .i32⟩
  | .hbm, ⟨2, _⟩ => ⟨S20x6144, .f32⟩
  | .hbm, ⟨3, _⟩ => ⟨S20x32x6144, .f32⟩
  | .hbm, ⟨4, _⟩ => ⟨S640x6144, .f32⟩
  | .hbm, ⟨5, _⟩ => ⟨S1024x1, .i32⟩
  | .hbm, ⟨6, _⟩ => ⟨S_, .i32⟩
  | .hbm, ⟨7, _⟩ => ⟨S_, .f32⟩
  | .hbm, ⟨8, _⟩ => ⟨S32x6144, .f32⟩
  | .hbm, ⟨9, _⟩ => ⟨S1024x6144, .f32⟩
  | .local _ .vmem, ⟨0, _⟩ => ⟨S1024x1, .i32⟩
  | .local _ .vmem, ⟨1, _⟩ => ⟨S1024x32, .f32⟩
  | .local _ .vmem, ⟨2, _⟩ => ⟨S1024x672, .f32⟩
  | .local _ .vmem, ⟨3, _⟩ => ⟨S4x672x1024, .f32⟩
  | .local _ .vmem, ⟨4, _⟩ => ⟨S4x1024x1024, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== ReferenceIdeal.lean ====
abbrev S1024x32 : Shape := ⟨2, ![1024, 32]⟩
abbrev S1024 : Shape := ⟨1, ![1024]⟩
abbrev S20x6144 : Shape := ⟨2, ![20, 6144]⟩
abbrev S20x32x6144 : Shape := ⟨3, ![20, 32, 6144]⟩
abbrev S_ : Shape := ⟨0, ![]⟩
abbrev S1024x1 : Shape := ⟨2, ![1024, 1]⟩
abbrev S1 : Shape := ⟨1, ![1]⟩
abbrev S1x1 : Shape := ⟨2, ![1, 1]⟩
abbrev S1024x6144 : Shape := ⟨2, ![1024, 6144]⟩
abbrev S1024x32x6144 : Shape := ⟨3, ![1024, 32, 6144]⟩

abbrev nBuf : Space → Nat
  | .hbm => 52
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S1024, .i32⟩
  | .hbm, ⟨2, _⟩ => ⟨S20x6144, .f32⟩
  | .hbm, ⟨3, _⟩ => ⟨S20x32x6144, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1, .i32⟩
  | .hbm, ⟨13, _⟩ => ⟨S_, .i32⟩
  | .hbm, ⟨14, _⟩ => ⟨S1024x1, .i32⟩
  | .hbm, ⟨15, _⟩ => ⟨S1024x1, .i1⟩
  | .hbm, ⟨16, _⟩ => ⟨S1x1, .i32⟩
  | .hbm, ⟨17, _⟩ => ⟨S1024x1, .i32⟩
  | .hbm, ⟨18, _⟩ => ⟨S1024x1, .i1⟩
  | .hbm, ⟨19, _⟩ => ⟨S1024x1, .i1⟩
  | .hbm, ⟨20, _⟩ => ⟨S_, .i1⟩
  | .hbm, ⟨21, _⟩ => ⟨S1024, .i1⟩
  | .hbm, ⟨22, _⟩ => ⟨S1024x6144, .f32⟩
  | .hbm, ⟨23, _⟩ => ⟨S1024x6144, .i1⟩
  | .hbm, ⟨24, _⟩ => ⟨S_, .f32⟩
  | .hbm, ⟨25, _⟩ => ⟨S1024x6144, .f32⟩
  | .hbm, ⟨26, _⟩ => ⟨S1024x6144, .f32⟩
  | .hbm, ⟨27, _⟩ => ⟨S_, .i32⟩
  | .hbm, ⟨28, _⟩ => ⟨S1024, .i32⟩
  | .hbm, ⟨29, _⟩ => ⟨S1024, .i1⟩
  | .hbm, ⟨30, _⟩ => ⟨S_, .i32⟩
  | .hbm, ⟨31, _⟩ => ⟨S1024, .i32⟩
  | .hbm, ⟨32, _⟩ => ⟨S1024, .i32⟩
  | .hbm, ⟨33, _⟩ => ⟨S1024, .i32⟩
  | .hbm, ⟨34, _⟩ => ⟨S1024x1, .i32⟩
  | .hbm, ⟨35, _⟩ => ⟨S1, .i32⟩
  | .hbm, ⟨36, _⟩ => ⟨S_, .i32⟩
  | .hbm, ⟨37, _⟩ => ⟨S1024x1, .i32⟩
  | .hbm, ⟨38, _⟩ => ⟨S1024x1, .i1⟩
  | .hbm, ⟨39, _⟩ => ⟨S1x1, .i32⟩
  | .hbm, ⟨40, _⟩ => ⟨S1024x1, .i32⟩
  | .hbm, ⟨41, _⟩ => ⟨S1024x1, .i1⟩
  | .hbm, ⟨42, _⟩ => ⟨S1024x1, .i1⟩
  | .hbm, ⟨43, _⟩ => ⟨S_, .i1⟩
  | .hbm, ⟨44, _⟩ => ⟨S1024, .i1⟩
  | .hbm, ⟨45, _⟩ => ⟨S1024x32x6144, .f32⟩
  | .hbm, ⟨46, _⟩ => ⟨S1024x32x6144, .i1⟩
  | .hbm, ⟨47, _⟩ => ⟨S_, .f32⟩
  | .hbm, ⟨48, _⟩ => ⟨S1024x32x6144, .f32⟩
  | .hbm, ⟨49, _⟩ => ⟨S1024x32x6144, .f32⟩
  | .hbm, ⟨50, _⟩ => ⟨S1024x6144, .f32⟩
  | .hbm, ⟨51, _⟩ => ⟨S1024x6144, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_v2 : Ref sig .tc := ⟨.hbm, 50, rfl⟩
abbrev main_v3 : Ref sig .tc := ⟨.hbm, 51, rfl⟩

abbrev nD : Nat := 1
abbrev τ : Topo := Topo.v7x

variable {F : FTy → Type} [FloatOps F]
-- ==== Proof.KernelIdealRun.lean ====
/-
  The body of the kernel run once: from the staged labels and latents, the component rows and the padded means left in
  HBM, the three scratch buffers at anything and the twenty transfer semaphores at zero, the body ends with every
  semaphore at zero again, the operands as they were, and the result at contents `kernelRun` names.
-/
module

public import proofs.«01_k».proof.Defs
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameValue
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's operands -/

/-- The matrix of routed latents, the ring of weight slots, the ring of output slots. -/
abbrev eM : Memref sig .tc .vmem S1024x672 .f32 := Memref.whole cc0_scratch0
abbrev wM : Memref sig .tc .vmem S4x672x1024 .f32 := Memref.whole cc0_scratch1
abbrev obM : Memref sig .tc .vmem S4x1024x1024 .f32 := Memref.whole cc0_scratch2
/-- The component rows, the padded means, the result, all in HBM. -/
abbrev compM : Memref sig .tc .hbm S640x6144 .f32 := Memref.whole main_v0
abbrev meansM : Memref sig .tc .hbm S32x6144 .f32 := Memref.whole main_v2
abbrev outM : Memref sig .tc .hbm S1024x6144 .f32 := Memref.whole main_v3

/-- What the whole buffer under `M` can hold on core `c`. -/
abbrev HbBuf (c : Dev nD) {sp : Space} {S : Shape} {e : EltTy} (M : Memref sig .tc sp S e) : Type := Buf (Elt F) (M.view.loc (c : Thread nD τ))
/-- The whole buffer under `M`, at contents `f`. -/
abbrev hbPt (c : Dev nD) {sp : Space} {S : Shape} {e : EltTy} (M : Memref sig .tc sp S e) (f : HbBuf (F := F) c M) : sProp 𝕄 :=
  M.view.loc (c : Thread nD τ) ↦{fullShare} f
/-- Transfer semaphore `k` of core `c` at zero. -/
abbrev cell0 (c : Dev nD) (k : Fin 22) : sProp 𝕄 := semVal ((c : Thread nD τ), SemLoc.dma k) 0

/-- The twenty semaphores of the body's own transfers at zero. -/
abbrev cells0 (c : Dev nD) : sProp 𝕄 :=
  iprop(cell0 c 2 ∗ cell0 c 3 ∗ cell0 c 4 ∗ cell0 c 5 ∗ cell0 c 6 ∗ cell0 c 7 ∗ cell0 c 8 ∗ cell0 c 9 ∗ cell0 c 10 ∗ cell0 c 11
    ∗ cell0 c 12 ∗ cell0 c 13 ∗ cell0 c 14 ∗ cell0 c 15 ∗ cell0 c 16 ∗ cell0 c 17 ∗ cell0 c 18 ∗ cell0 c 19 ∗ cell0 c 20 ∗ cell0 c 21)

set_option maxHeartbeats 4000000 in
set_option sl_exec.dmaWindow true in
/-- The contents that the body leaves in the result array, with the proof that a run of the body, from any contents of its
operands and with every semaphore at zero, leaves them there and gives everything else back. -/
noncomputable def kernelRun (c : Dev nD) (i : grid0.Coords)
    (arg1 : Memref sig .tc .vmem S1024x1 .i32) (harg1 : arg1.IsWhole) (arg2 : Memref sig .tc .vmem S1024x32 .f32) (harg2 : arg2.IsWhole)
    (fl : HbBuf (F := F) c arg1) (ft : HbBuf (F := F) c arg2)
    (fe : HbBuf (F := F) c eM) (fw : HbBuf (F := F) c wM) (fb : HbBuf (F := F) c obM)
    (fc : HbBuf (F := F) c compM) (fm : HbBuf (F := F) c meansM) (fo : HbBuf (F := F) c outM) :
    { G : HbBuf (F := F) c outM //
      ∀ (W : Waits sig Unit) (K : PUnit → sProp 𝕄),
        iprop((arg1.view.loc (c : Thread nD τ) ↦[arg1.view.set]{fullShare} fl)
            ∗ (arg2.view.loc (c : Thread nD τ) ↦[arg2.view.set]{fullShare} ft)
            ∗ hbPt c eM fe ∗ hbPt c wM fw ∗ hbPt c obM fb
            ∗ cells0 c ∗ hbPt c compM fc ∗ hbPt c meansM fm ∗ hbPt c outM fo
            ∗ owes (c : Thread nD τ) 0 W
            ∗ (iprop((arg1.view.loc (c : Thread nD τ) ↦[arg1.view.set]{fullShare} fl)
                ∗ (arg2.view.loc (c : Thread nD τ) ↦[arg2.view.set]{fullShare} ft)
                ∗ (∃ f, hbPt c eM f) ∗ (∃ f, hbPt c wM f) ∗ (∃ f, hbPt c obM f)
                ∗ cells0 c ∗ hbPt c compM fc ∗ hbPt c meansM fm ∗ hbPt c outM G
                ∗ (∃ W', owes (c : Thread nD τ) 0 W')) -∗ K ⟨⟩))
          ⊢ wp frame (wpE (defs₀ (F := F)) Variants.none c none) Set.univ
              (cc0__decode_kernel i arg1 harg1 arg2 harg2 compM (Memref.isWhole_whole _) meansM (Memref.isWhole_whole _)
                outM (Memref.isWhole_whole _) eM (Memref.isWhole_whole _) wM (Memref.isWhole_whole _) obM (Memref.isWhole_whole _)
                cc0_scratch3 cc0_scratch4 cc0_scratch5) K } := by
  refine ⟨?_, fun W K => ?run⟩
  case run =>
    simp only [cc0__decode_kernel_eq_skeleton]; unfold cc0__decode_kernel_skel
    iintro ⟨H1, H2, HE, HWB, HOB, ⟨Hq2, Hq3, Hq4, Hq5, Hq6, Hq7, Hq8, Hq9, Hq10, Hq11, Hq12, Hq13, Hq14, Hq15, Hq16, Hq17, Hq18, Hq19, Hq20, Hq21⟩,
      HC, HM, HO, HW, Hk⟩
    sl_exec
    sl_step
    iapply Hk
    isplitl [H1]; · iexact H1
    isplitl [H2]; · iexact H2
    isplitl [HE]; · iexists _; iexact HE
    isplitl [HWB]; · iexists _; iexact HWB
    isplitl [HOB]; · iexists _; iexact HOB
    isplitl [Hq2 Hq3 Hq4 Hq5 Hq6 Hq7 Hq8 Hq9 Hq10 Hq11 Hq12 Hq13 Hq14 Hq15 Hq16 Hq17 Hq18 Hq19 Hq20 Hq21]
    · isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      iexact Hq21
    isplitl [HC]; · iexact HC
    isplitl [HM]; · iexact HM
    isplitl [HO]; · iexact HO
    iexists _; iexact HW

end Cert.KernelIdeal.Hand

end
-- ==== Proof.Landing.lean ====
/-
  What the rings of buffers hold after transfers into windows of them, read at an index. Everything here is about
  memrefs of the kernel's shapes over any reference signature and any element values, so it serves both printings of
  the kernel.

  The weights the result's column block `i` is computed from are rows of the components above rows of the padded means
  (`wAt`, and `wblk` for the block's 1024 columns). A slot of the weight ring holds block `i` (`SlotIs`) once the three
  transfers into it have landed (`slotIs_landed`); transfers into other slots leave it there (`SlotIs.other`); a load of
  the whole slot then reads the block (`load_slot`).
-/
module

public import Idealize.ShloMosaic.Lib.WritesUnit
public import Idealize.ShloMosaic.Lib.ViewIndex
public import Idealize.ShloMosaic.Lib.ValueLayout
public import Idealize.ShloMosaic.Lib.Pointwise

@[expose] public section

noncomputable section

namespace Cert.Landing

open Idealize.ShloMosaic

variable {sig : RefSig} {κ : Kind} {sp sp' : Space} {e : EltTy} {Val : EltTy → Type}

/-! ## A window of one slot, written and read -/

section Window
variable {A R C n : ℕ} (M : Memref sig κ sp ⟨3, ![A, R, C]⟩ e) (s r : ℕ)
  (inb : ∀ a, (![s, r, 0] : Fin 3 → ℕ) a + (⟨3, ![1, n, C]⟩ : Shape).size a ≤ (⟨3, ![A, R, C]⟩ : Shape).size a)
  (hr : ∀ a, (Rect.unit (s := ⟨3, ![A, R, C]⟩) ![s, r, 0] (⟨3, ![1, n, C]⟩ : Shape).size inb).stride a = 1)
  (hq : (⟨3, ![1, n, C]⟩ : Shape).Squeezes ⟨2, ![n, C]⟩)

/-- Rows `r` to `r + n` of slot `s`, as one matrix. -/
abbrev win : Memref sig κ sp ⟨2, ![n, C]⟩ e :=
  (M.slice (Rect.unit (s := ⟨3, ![A, R, C]⟩) ![s, r, 0] (⟨3, ![1, n, C]⟩ : Shape).size inb) hr).squeeze ⟨2, ![n, C]⟩ hq

/-- The window's element at `(x, c)` is the buffer's at `(s, r + x, c)`. -/
theorem read_win (f : M.view.ty.Contents Val) (x : Fin n) (c : Fin C) (a : Fin A) (b : Fin R) (ha : a.val = s)
    (hb : b.val = r + x.val) :
    (win M s r inb hr hq).view.read Val f (ix2 x c) = M.view.read Val f (ix3 a b c) := by
  have h1 : (win M s r inb hr hq).view.read Val f (ix2 x c)
      = M.view.read Val f ((Rect.unit (s := ⟨3, ![A, R, C]⟩) ![s, r, 0] (⟨3, ![1, n, C]⟩ : Shape).size inb).emb
          (Shape.reshapeEquiv hq.numel_eq (ix2 x c))) := rfl
  rw [h1, Shape.reshapeEquiv_cons_one]
  refine congrArg (M.view.read Val f) (Rect.emb_eq_of_coords _ _ _ fun i => ?_)
  match i with
  | ⟨0, _⟩ => show a.val = s + 1 * 0; omega
  | ⟨1, _⟩ => show b.val = r + 1 * x.val; omega
  | ⟨2, _⟩ => show c.val = 0 + 1 * c.val; omega

/-- Writing the window is writing the buffer's rectangle with the matched elements. -/
theorem write_win (f : M.view.ty.Contents Val) (w : (⟨2, ![n, C]⟩ : Shape).Idx → Val e) :
    (win M s r inb hr hq).view.write Val f w Finset.univ
      = M.view.writes Val f [⟨Rect.unit (s := ⟨3, ![A, R, C]⟩) ![s, r, 0] (⟨3, ![1, n, C]⟩ : Shape).size inb,
          fun y => w ((Shape.reshapeEquiv hq.numel_eq).symm y)⟩] := by
  rw [View.writes_singleton]
  exact View.write_reshape_univ (M.slice (Rect.unit (s := ⟨3, ![A, R, C]⟩) ![s, r, 0] (⟨3, ![1, n, C]⟩ : Shape).size inb) hr).view hq.numel_eq f w

/-- Inside the window the buffer reads what was written. -/
theorem read_write_win_hit (f : M.view.ty.Contents Val) (w : (⟨2, ![n, C]⟩ : Shape).Idx → Val e) (x : Fin n) (c : Fin C)
    (a : Fin A) (b : Fin R) (ha : a.val = s) (hb : b.val = r + x.val) :
    M.view.read Val ((win M s r inb hr hq).view.write Val f w Finset.univ) (ix3 a b c) = w (ix2 x c) := by
  rw [← read_win M s r inb hr hq _ x c a b ha hb]
  exact View.read_write_of_mem _ _ (Finset.mem_univ _)

/-- Outside the window the buffer reads as before. -/
theorem read_write_win_miss (f : M.view.ty.Contents Val) (w : (⟨2, ![n, C]⟩ : Shape).Idx → Val e)
    (a : Fin A) (b : Fin R) (c : Fin C) (h : a.val ≠ s ∨ b.val < r ∨ r + n ≤ b.val) :
    M.view.read Val ((win M s r inb hr hq).view.write Val f w Finset.univ) (ix3 a b c) = M.view.read Val f (ix3 a b c) := by
  rw [write_win]
  by_cases ha : a.val = s
  · exact View.read_writes_cons_miss_of_axis _ _ _ _ _ (1 : Fin 3) r n rfl rfl rfl (h.resolve_left (fun h => h ha))
  · exact View.read_writes_cons_miss_of_axis _ _ _ _ _ (0 : Fin 3) s 1 rfl rfl rfl (by show a.val < s ∨ s + 1 ≤ a.val; omega)

end Window

/-! ## A rectangle of a matrix, read -/

/-- The rectangle at `(r, o)` reads the matrix shifted. -/
theorem read_rect {R C n k : ℕ} (M : Memref sig κ sp ⟨2, ![R, C]⟩ e) (r o : ℕ)
    (inb : ∀ a, (![r, o] : Fin 2 → ℕ) a + (⟨2, ![n, k]⟩ : Shape).size a ≤ (⟨2, ![R, C]⟩ : Shape).size a)
    (hr : ∀ a, (Rect.unit (s := ⟨2, ![R, C]⟩) ![r, o] (⟨2, ![n, k]⟩ : Shape).size inb).stride a = 1)
    (f : M.view.ty.Contents Val) (x : Fin n) (y : Fin k) (a : Fin R) (b : Fin C) (ha : a.val = r + x.val) (hb : b.val = o + y.val) :
    (M.slice (Rect.unit (s := ⟨2, ![R, C]⟩) ![r, o] (⟨2, ![n, k]⟩ : Shape).size inb) hr).view.read Val f (ix2 x y)
      = M.view.read Val f (ix2 a b) := by
  have h1 : (M.slice (Rect.unit (s := ⟨2, ![R, C]⟩) ![r, o] (⟨2, ![n, k]⟩ : Shape).size inb) hr).view.read Val f (ix2 x y)
      = M.view.read Val f ((Rect.unit (s := ⟨2, ![R, C]⟩) ![r, o] (⟨2, ![n, k]⟩ : Shape).size inb).emb (ix2 x y)) := rfl
  rw [h1]
  refine congrArg (M.view.read Val f) (Rect.emb_eq_of_coords _ _ _ fun i => ?_)
  match i with
  | ⟨0, _⟩ => show a.val = r + 1 * x.val; omega
  | ⟨1, _⟩ => show b.val = o + 1 * y.val; omega

/-! ## The weight ring -/

/-- The weights: the components' 640 rows above the 32 rows of the padded means. -/
def wAt {α : Type} (xc : (⟨2, ![640, 6144]⟩ : Shape).Idx → α) (xm : (⟨2, ![32, 6144]⟩ : Shape).Idx → α) (b : Fin 672)
    (d : Fin 6144) : α :=
  if h : b.val < 640 then xc (ix2 ⟨b.val, h⟩ d) else xm (ix2 ⟨b.val - 640, by omega⟩ d)

/-- Column `q` of column block `i`. -/
def colOf (i : Fin 6) (q : Fin 1024) : Fin 6144 := ⟨1024 * i.val + q.val, by omega⟩

/-- The 1024 columns of the weights in column block `i`, as one slot of the ring. -/
def wblk {α : Type} (xc : (⟨2, ![640, 6144]⟩ : Shape).Idx → α) (xm : (⟨2, ![32, 6144]⟩ : Shape).Idx → α) (i : Fin 6) :
    (⟨3, ![1, 672, 1024]⟩ : Shape).Idx → α :=
  fun y => wAt xc xm (y (1 : Fin 3)) (colOf i (y (2 : Fin 3)))

section Ring
variable (M : Memref sig κ sp ⟨3, ![4, 672, 1024]⟩ e) (xc : (⟨2, ![640, 6144]⟩ : Shape).Idx → Val e)
  (xm : (⟨2, ![32, 6144]⟩ : Shape).Idx → Val e)

/-- Slot `s` of the ring, at contents `f`, holds column block `i` of the weights. -/
def SlotIs (f : M.view.ty.Contents Val) (s : Fin 4) (i : Fin 6) : Prop :=
  ∀ (b : Fin 672) (q : Fin 1024), M.view.read Val f (ix3 s b q) = wAt xc xm b (colOf i q)

/-- A transfer into a window of another slot leaves the block where it is. -/
theorem SlotIs.other {M : Memref sig κ sp ⟨3, ![4, 672, 1024]⟩ e} {xc : (⟨2, ![640, 6144]⟩ : Shape).Idx → Val e}
    {xm : (⟨2, ![32, 6144]⟩ : Shape).Idx → Val e} {n : ℕ} {s' r : ℕ}
    {inb : ∀ a, (![s', r, 0] : Fin 3 → ℕ) a + (⟨3, ![1, n, 1024]⟩ : Shape).size a ≤ (⟨3, ![4, 672, 1024]⟩ : Shape).size a}
    {hr : ∀ a, (Rect.unit (s := ⟨3, ![4, 672, 1024]⟩) ![s', r, 0] (⟨3, ![1, n, 1024]⟩ : Shape).size inb).stride a = 1}
    {hq : (⟨3, ![1, n, 1024]⟩ : Shape).Squeezes ⟨2, ![n, 1024]⟩}
    {f : M.view.ty.Contents Val} {w : (⟨2, ![n, 1024]⟩ : Shape).Idx → Val e} {s : Fin 4} {i : Fin 6}
    (hs : s.val ≠ s') (h : SlotIs M xc xm f s i) :
    SlotIs M xc xm ((win M s' r inb hr hq).view.write Val f w Finset.univ) s i := fun b q => by
  rw [read_write_win_miss M s' r inb hr hq f w s b q (.inl hs)]; exact h b q

/-- After the three transfers of block `i` into slot `s` — the two halves of the components' rows, the means' rows — the
    slot holds the block. -/
theorem slotIs_landed (C : Memref sig κ sp' ⟨2, ![640, 6144]⟩ e) (N : Memref sig κ sp' ⟨2, ![32, 6144]⟩ e)
    (fc : C.view.ty.Contents Val) (fm : N.view.ty.Contents Val) (so o : ℕ)
    {inb0 : ∀ a, (![so, 0, 0] : Fin 3 → ℕ) a + (⟨3, ![1, 320, 1024]⟩ : Shape).size a ≤ (⟨3, ![4, 672, 1024]⟩ : Shape).size a}
    {inb1 : ∀ a, (![so, 320, 0] : Fin 3 → ℕ) a + (⟨3, ![1, 320, 1024]⟩ : Shape).size a ≤ (⟨3, ![4, 672, 1024]⟩ : Shape).size a}
    {inb2 : ∀ a, (![so, 640, 0] : Fin 3 → ℕ) a + (⟨3, ![1, 32, 1024]⟩ : Shape).size a ≤ (⟨3, ![4, 672, 1024]⟩ : Shape).size a}
    {hr0 hr1 hr2} {hq0 : (⟨3, ![1, 320, 1024]⟩ : Shape).Squeezes ⟨2, ![320, 1024]⟩} {hq1 : (⟨3, ![1, 320, 1024]⟩ : Shape).Squeezes ⟨2, ![320, 1024]⟩}
    {hq2 : (⟨3, ![1, 32, 1024]⟩ : Shape).Squeezes ⟨2, ![32, 1024]⟩}
    {jnb0 : ∀ a, (![0, o] : Fin 2 → ℕ) a + (⟨2, ![320, 1024]⟩ : Shape).size a ≤ (⟨2, ![640, 6144]⟩ : Shape).size a}
    {jnb1 : ∀ a, (![320, o] : Fin 2 → ℕ) a + (⟨2, ![320, 1024]⟩ : Shape).size a ≤ (⟨2, ![640, 6144]⟩ : Shape).size a}
    {jnb2 : ∀ a, (![0, o] : Fin 2 → ℕ) a + (⟨2, ![32, 1024]⟩ : Shape).size a ≤ (⟨2, ![32, 6144]⟩ : Shape).size a}
    {kr0 kr1 kr2}
    {f : M.view.ty.Contents Val} {w0 w1 : (⟨2, ![320, 1024]⟩ : Shape).Idx → Val e} {w2 : (⟨2, ![32, 1024]⟩ : Shape).Idx → Val e}
    {s : Fin 4} {i : Fin 6} (hs : s.val = so) (ho : o = 1024 * i.val)
    (hw0 : w0 = (C.slice (Rect.unit (s := ⟨2, ![640, 6144]⟩) ![0, o] (⟨2, ![320, 1024]⟩ : Shape).size jnb0) kr0).view.read Val fc)
    (hw1 : w1 = (C.slice (Rect.unit (s := ⟨2, ![640, 6144]⟩) ![320, o] (⟨2, ![320, 1024]⟩ : Shape).size jnb1) kr1).view.read Val fc)
    (hw2 : w2 = (N.slice (Rect.unit (s := ⟨2, ![32, 6144]⟩) ![0, o] (⟨2, ![32, 1024]⟩ : Shape).size jnb2) kr2).view.read Val fm) :
    SlotIs M (C.view.read Val fc) (N.view.read Val fm)
      ((win M so 640 inb2 hr2 hq2).view.write Val ((win M so 320 inb1 hr1 hq1).view.write Val
        ((win M so 0 inb0 hr0 hq0).view.write Val f w0 Finset.univ) w1 Finset.univ) w2 Finset.univ) s i := fun b q => by
  unfold wAt
  rcases Nat.lt_or_ge b.val 320 with h0 | h0
  · rw [read_write_win_miss _ _ _ _ _ _ _ _ _ _ _ (.inr (.inl (by omega))),
      read_write_win_miss _ _ _ _ _ _ _ _ _ _ _ (.inr (.inl h0)),
      read_write_win_hit M so 0 inb0 hr0 hq0 f w0 ⟨b.val, h0⟩ q s b hs (by simp), dif_pos (by omega : b.val < 640), hw0]
    exact read_rect C 0 o jnb0 kr0 fc ⟨b.val, h0⟩ q _ _ (by simp) (by simp only [colOf]; omega)
  · rcases Nat.lt_or_ge b.val 640 with h1 | h1
    · rw [read_write_win_miss _ _ _ _ _ _ _ _ _ _ _ (.inr (.inl h1)),
        read_write_win_hit M so 320 inb1 hr1 hq1 _ w1 ⟨b.val - 320, by omega⟩ q s b hs (by show b.val = 320 + (b.val - 320); omega), dif_pos h1, hw1]
      exact read_rect C 320 o jnb1 kr1 fc ⟨b.val - 320, by omega⟩ q _ _ (by show b.val = 320 + (b.val - 320); omega) (by simp only [colOf]; omega)
    · rw [read_write_win_hit M so 640 inb2 hr2 hq2 _ w2 ⟨b.val - 640, by omega⟩ q s b hs (by show b.val = 640 + (b.val - 640); omega), dif_neg (by omega), hw2]
      exact read_rect N 0 o jnb2 kr2 fm ⟨b.val - 640, by omega⟩ q _ _ (by show b.val - 640 = 0 + (b.val - 640); omega) (by simp only [colOf]; omega)

/-- A load of the whole of a slot that holds block `i` reads the block. -/
theorem load_slot {f : M.view.ty.Contents Val} {s : Fin 4} {i : Fin 6} {so : ℕ} (hs : s.val = so)
    (inb : ∀ a, (![so, 0, 0] : Fin 3 → ℕ) a + (⟨3, ![1, 672, 1024]⟩ : Shape).size a ≤ (⟨3, ![4, 672, 1024]⟩ : Shape).size a)
    (h : SlotIs M xc xm f s i) :
    M.view.readAt Val (Rect.unit (s := ⟨3, ![4, 672, 1024]⟩) ![so, 0, 0] (⟨3, ![1, 672, 1024]⟩ : Shape).size inb).toLoadRect f
      = wblk xc xm i := by
  funext y
  refine Eq.trans ?_ (h (y (1 : Fin 3)) (y (2 : Fin 3)))
  refine congrArg (M.view.read Val f) (Rect.emb_eq_of_coords (Rect.unit (s := ⟨3, ![4, 672, 1024]⟩) ![so, 0, 0] (⟨3, ![1, 672, 1024]⟩ : Shape).size inb) y _ fun a => ?_)
  match a with
  | ⟨0, _⟩ =>
    have h0 : (y (0 : Fin 3)).val < 1 := (y (0 : Fin 3)).isLt
    show s.val = so + 1 * (y (0 : Fin 3)).val; omega
  | ⟨1, _⟩ => show (y (1 : Fin 3)).val = 0 + 1 * (y (1 : Fin 3)).val; omega
  | ⟨2, _⟩ => show (y (2 : Fin 3)).val = 0 + 1 * (y (2 : Fin 3)).val; omega

end Ring

/-! ## The ring of output slots -/

/-- Half of the slot just stored, read through its window: the stored block's rows from `r`. -/
theorem read_win_stored {A R C n : ℕ} (M : Memref sig κ sp ⟨3, ![A, R, C]⟩ e) (s r : ℕ)
    (inb : ∀ a, (![s, r, 0] : Fin 3 → ℕ) a + (⟨3, ![1, n, C]⟩ : Shape).size a ≤ (⟨3, ![A, R, C]⟩ : Shape).size a)
    (hr : ∀ a, (Rect.unit (s := ⟨3, ![A, R, C]⟩) ![s, r, 0] (⟨3, ![1, n, C]⟩ : Shape).size inb).stride a = 1)
    (hq : (⟨3, ![1, n, C]⟩ : Shape).Squeezes ⟨2, ![n, C]⟩)
    (inb' : ∀ a, (![s, 0, 0] : Fin 3 → ℕ) a + (⟨3, ![1, R, C]⟩ : Shape).size a ≤ (⟨3, ![A, R, C]⟩ : Shape).size a)
    (f : M.view.ty.Contents Val) (p : (⟨3, ![1, R, C]⟩ : Shape).Idx → Val e) (L : List (View.Piece Val ⟨3, ![A, R, C]⟩ e))
    (x : Fin n) (q : Fin C) (b : Fin R) (hb : b.val = r + x.val) :
    (win M s r inb hr hq).view.read Val
        (M.view.writes Val f (⟨Rect.unit (s := ⟨3, ![A, R, C]⟩) ![s, 0, 0] (⟨3, ![1, R, C]⟩ : Shape).size inb', p⟩ :: L)) (ix2 x q)
      = p (ix3 0 b q) := by
  have hs : s < A := by
    have h : s + 1 ≤ A := inb 0
    omega
  rw [read_win M s r inb hr hq _ x q ⟨s, hs⟩ b rfl hb]
  refine View.read_writes_cons_unit_of_mem _ _ inb' p L _ (ix3 0 b q) rfl fun a => ?_
  match a with
  | ⟨0, _⟩ => show s = s + 0; omega
  | ⟨1, _⟩ => show b.val = 0 + b.val; omega
  | ⟨2, _⟩ => show q.val = 0 + q.val; omega

/-! ## The result assembled from column blocks -/

/-- A 1024 × 6144 matrix from its six blocks of 1024 columns. -/
def slab {α : Type} (P : Fin 6 → (⟨3, ![1, 1024, 1024]⟩ : Shape).Idx → α) : (⟨2, ![1024, 6144]⟩ : Shape).Idx → α := fun y =>
  P ⟨(y (1 : Fin 2)).val / 1024, by have h : (y (1 : Fin 2)).val < 6144 := (y (1 : Fin 2)).isLt; omega⟩
    (ix3 0 (y (0 : Fin 2)) ⟨(y (1 : Fin 2)).val % 1024, Nat.mod_lt _ (by decide)⟩)

/-- The assembled matrix at row `b`, column `q` of block `i`. -/
theorem slab_apply {α : Type} (P : Fin 6 → (⟨3, ![1, 1024, 1024]⟩ : Shape).Idx → α) (y : (⟨2, ![1024, 6144]⟩ : Shape).Idx)
    (b q : Fin 1024) (i : Fin 6) (h0 : (y (0 : Fin 2)).val = b.val) (h1 : (y (1 : Fin 2)).val = 1024 * i.val + q.val) :
    slab P y = P i (ix3 0 b q) := by
  unfold slab
  have e1 : (⟨(y (1 : Fin 2)).val / 1024, by have h : (y (1 : Fin 2)).val < 6144 := (y (1 : Fin 2)).isLt; omega⟩ : Fin 6) = i :=
    Fin.ext (by show (y (1 : Fin 2)).val / 1024 = i.val; omega)
  have e2 : (⟨(y (1 : Fin 2)).val % 1024, Nat.mod_lt _ (by decide)⟩ : Fin 1024) = q :=
    Fin.ext (by show (y (1 : Fin 2)).val % 1024 = q.val; omega)
  have e3 : y (0 : Fin 2) = b := Fin.ext h0
  rw [e1, e2, e3]

/-- The half of a stored slot that holds column block `i`, copied out to the block's columns and the half's rows, is that
    rectangle of the assembled matrix. -/
theorem half_agrees (M : Memref sig κ sp ⟨3, ![4, 1024, 1024]⟩ e) (s r o : ℕ)
    {inb : ∀ a, (![s, r, 0] : Fin 3 → ℕ) a + (⟨3, ![1, 512, 1024]⟩ : Shape).size a ≤ (⟨3, ![4, 1024, 1024]⟩ : Shape).size a}
    {hr : ∀ a, (Rect.unit (s := ⟨3, ![4, 1024, 1024]⟩) ![s, r, 0] (⟨3, ![1, 512, 1024]⟩ : Shape).size inb).stride a = 1}
    {hq : (⟨3, ![1, 512, 1024]⟩ : Shape).Squeezes ⟨2, ![512, 1024]⟩}
    {inb' : ∀ a, (![s, 0, 0] : Fin 3 → ℕ) a + (⟨3, ![1, 1024, 1024]⟩ : Shape).size a ≤ (⟨3, ![4, 1024, 1024]⟩ : Shape).size a}
    (jnb : ∀ a, (![r, o] : Fin 2 → ℕ) a + (⟨2, ![512, 1024]⟩ : Shape).size a ≤ (⟨2, ![1024, 6144]⟩ : Shape).size a)
    {f : M.view.ty.Contents Val} {p : (⟨3, ![1, 1024, 1024]⟩ : Shape).Idx → Val e} {L : List (View.Piece Val ⟨3, ![4, 1024, 1024]⟩ e)}
    (P : Fin 6 → (⟨3, ![1, 1024, 1024]⟩ : Shape).Idx → Val e) (i : Fin 6) (ho : o = 1024 * i.val) (hp : p = P i)
    (x : (⟨2, ![512, 1024]⟩ : Shape).Idx) :
    (win M s r inb hr hq).view.read Val
        (M.view.writes Val f (⟨Rect.unit (s := ⟨3, ![4, 1024, 1024]⟩) ![s, 0, 0] (⟨3, ![1, 1024, 1024]⟩ : Shape).size inb', p⟩ :: L)) x
      = slab P ((Rect.unit (s := ⟨2, ![1024, 6144]⟩) ![r, o] (⟨2, ![512, 1024]⟩ : Shape).size jnb).emb x) := by
  have hr' : r + 512 ≤ 1024 := jnb 0
  have h0 : (x (0 : Fin 2)).val < 512 := (x (0 : Fin 2)).isLt
  have h1 : (x (1 : Fin 2)).val < 1024 := (x (1 : Fin 2)).isLt
  have hx : x = ix2 (x (0 : Fin 2)) (x (1 : Fin 2)) := by
    funext a
    match a with
    | ⟨0, _⟩ => rfl
    | ⟨1, _⟩ => rfl
  rw [slab_apply P _ (⟨r + (x (0 : Fin 2)).val, by omega⟩ : Fin 1024) (x (1 : Fin 2)) i
    (by show r + 1 * (x (0 : Fin 2)).val = r + (x (0 : Fin 2)).val; omega)
    (by show o + 1 * (x (1 : Fin 2)).val = 1024 * i.val + (x (1 : Fin 2)).val; omega), ← hp]
  conv_lhs => rw [hx]
  exact read_win_stored M s r inb hr hq inb' f p L (x (0 : Fin 2)) (x (1 : Fin 2)) _ rfl

end Cert.Landing

end
-- ==== Proof.KernelIdealValue.lean ====
/-
  What the body's run leaves in the result, as one expression: block `i` of 1024 columns is the product of the routed
  latents (`eSpec`) with block `i` of the weights. Nothing of the scratch buffers' or of the result's earlier contents is
  left in it.
-/
module

public import proofs.«01_k».proof.Proof.KernelIdealRun
public import proofs.«01_k».proof.Proof.Landing
public import Idealize.ShloMosaic.Lib.VecWindow

@[expose] public section

set_option maxRecDepth 16384

noncomputable section

namespace Cert.KernelIdeal.Hand

open Cert.KernelIdeal Cert.KernelIdeal.Gen Cert.Landing
open Idealize.ShloMosaic Idealize.ShloMosaic.TcCoe Idealize.ShloMosaic.Tactic

variable {F : FTy → Type} [FloatOps F]

/-- The routed latents: column `j < 640` holds the latent `j % 32` where the row's label is `j / 32`, column `640 + k` holds
    one where the label is `k`, and zero stands everywhere else. -/
def eSpec (lab : Vec F S1024x1 .i32) (lat : Vec F S1024x32 .f32) : FVec F S1024x672 .f32 :=
  k0_pay5 (k0_pay1 (F := F) lab) (iota .tc S1024x672 32 [1] iota_S1024x672_d1_w32) k0_pay2 32#32 k0_pay3 k0_pay4 0#32 lat

/-- Column block `i` of the result. -/
def outBlock (lab : Vec F S1024x1 .i32) (lat : Vec F S1024x32 .f32) (xc : Vec F S640x6144 .f32) (xm : Vec F S32x6144 .f32)
    (i : Fin 6) : FVec F S1x1024x1024 .f32 := k0_pay6 (eSpec lab lat) (wblk xc xm i)

/-- The result: its six column blocks side by side. -/
def outSpec (lab : Vec F S1024x1 .i32) (lat : Vec F S1024x32 .f32) (xc : Vec F S640x6144 .f32) (xm : Vec F S32x6144 .f32) :
    Vec F S1024x6144 .f32 := slab (outBlock lab lat xc xm)

section Loads
variable (c : Dev nD) (arg1 : Memref sig .tc .vmem S1024x1 .i32) (arg2 : Memref sig .tc .vmem S1024x32 .f32)
  (fl : HbBuf (F := F) c arg1) (ft : HbBuf (F := F) c arg2)
  (fw : HbBuf (F := F) c wM) (fc : HbBuf (F := F) c compM) (fm : HbBuf (F := F) c meansM)

/-- Each product's left operand is the routed latents. -/
theorem v120_eq : kernelRun.sl.v120 c arg1 arg2 fl ft = eSpec (arg1.view.read (Elt F) fl) (arg2.view.read (Elt F) ft) := by
  unfold kernelRun.sl.v120 kernelRun.sl.HE_1
  refine (View.readCov_full (Val := Elt F) eM.view _ _ _ _).trans ?_
  unfold kernelRun.sl.v16 eSpec k0_pay1
  congr 1
  · congr 1
    exact View.readAt_full arg1.view fl _
  · exact View.readAt_full arg2.view ft _

/-- The right operand of product 0 is block 0 of the weights, out of slot 0. -/
theorem v121_eq : kernelRun.sl.v121 c fw fc fm = wblk fc fm 0 := by
  unfold kernelRun.sl.v121
  refine load_slot wM fc fm (s := 0) rfl _ ?_
  repeat refine SlotIs.other (by decide) ?_
  exact slotIs_landed wM compM meansM fc fm 0 0 rfl rfl rfl rfl rfl

/-- The right operand of product 1 is block 1 of the weights, out of slot 1. -/
theorem v168_eq : kernelRun.sl.v168 c fw fc fm = wblk fc fm 1 := by
  unfold kernelRun.sl.v168
  refine load_slot wM fc fm (s := 1) rfl _ ?_
  repeat refine SlotIs.other (by decide) ?_
  exact slotIs_landed wM compM meansM fc fm 1 1024 rfl rfl rfl rfl rfl

/-- The right operand of product 2 is block 2 of the weights, out of slot 2. -/
theorem v215_eq : kernelRun.sl.v215 c fw fc fm = wblk fc fm 2 := by
  unfold kernelRun.sl.v215
  refine load_slot wM fc fm (s := 2) rfl _ ?_
  repeat refine SlotIs.other (by decide) ?_
  exact slotIs_landed wM compM meansM fc fm 2 2048 rfl rfl rfl rfl rfl

/-- The right operand of product 3 is block 3 of the weights, out of slot 3. -/
theorem v247_eq : kernelRun.sl.v247 c fw fc fm = wblk fc fm 3 := by
  unfold kernelRun.sl.v247
  refine load_slot wM fc fm (s := 3) rfl _ ?_
  repeat refine SlotIs.other (by decide) ?_
  exact slotIs_landed wM compM meansM fc fm 3 3072 rfl rfl rfl rfl rfl

/-- The right operand of product 4 is block 4 of the weights, out of slot 0. -/
theorem v289_eq : kernelRun.sl.v289 c fw fc fm = wblk fc fm 4 := by
  unfold kernelRun.sl.v289
  refine load_slot wM fc fm (s := 0) rfl _ ?_
  repeat refine SlotIs.other (by decide) ?_
  exact slotIs_landed wM compM meansM fc fm 0 4096 rfl rfl rfl rfl rfl

/-- The right operand of product 5 is block 5 of the weights, out of slot 1. -/
theorem v331_eq : kernelRun.sl.v331 c fw fc fm = wblk fc fm 5 := by
  unfold kernelRun.sl.v331
  refine load_slot wM fc fm (s := 1) rfl _ ?_
  repeat refine SlotIs.other (by decide) ?_
  exact slotIs_landed wM compM meansM fc fm 1 5120 rfl rfl rfl rfl rfl

end Loads

/-- The twelve rectangles of the result the run writes, latest first: of each column block the lower half of the rows over
    the upper one. -/
def outPieces (c : Dev nD) (arg1 : Memref sig .tc .vmem S1024x1 .i32) (arg2 : Memref sig .tc .vmem S1024x32 .f32)
    (fl : HbBuf (F := F) c arg1) (ft : HbBuf (F := F) c arg2) (fw : HbBuf (F := F) c wM) (fb : HbBuf (F := F) c obM)
    (fc : HbBuf (F := F) c compM) (fm : HbBuf (F := F) c meansM) : List (View.Piece (Elt F) S1024x6144 .f32) :=
  [
    ⟨Rect.unit (s := S1024x6144) ![512, 5120] S512x1024.size inb_S1024x6144_S512x1024_512_5120, kernelRun.sl.dma28_1 c arg1 arg2 fl ft fw fb fc fm⟩,
    ⟨Rect.unit (s := S1024x6144) ![0, 5120] S512x1024.size inb_S1024x6144_S512x1024_0_5120, kernelRun.sl.dma28 c arg1 arg2 fl ft fw fb fc fm⟩,
    ⟨Rect.unit (s := S1024x6144) ![512, 4096] S512x1024.size inb_S1024x6144_S512x1024_512_4096, kernelRun.sl.dma24_1 c arg1 arg2 fl ft fw fb fc fm⟩,
    ⟨Rect.unit (s := S1024x6144) ![0, 4096] S512x1024.size inb_S1024x6144_S512x1024_0_4096, kernelRun.sl.dma24 c arg1 arg2 fl ft fw fb fc fm⟩,
    ⟨Rect.unit (s := S1024x6144) ![512, 3072] S512x1024.size inb_S1024x6144_S512x1024_512_3072, kernelRun.sl.dma20_1 c arg1 arg2 fl ft fw fb fc fm⟩,
    ⟨Rect.unit (s := S1024x6144) ![0, 3072] S512x1024.size inb_S1024x6144_S512x1024_0_3072, kernelRun.sl.dma20 c arg1 arg2 fl ft fw fb fc fm⟩,
    ⟨Rect.unit (s := S1024x6144) ![512, 2048] S512x1024.size inb_S1024x6144_S512x1024_512_2048, kernelRun.sl.dma16_1 c arg1 arg2 fl ft fw fb fc fm⟩,
    ⟨Rect.unit (s := S1024x6144) ![0, 2048] S512x1024.size inb_S1024x6144_S512x1024_0_2048, kernelRun.sl.dma16 c arg1 arg2 fl ft fw fb fc fm⟩,
    ⟨Rect.unit (s := S1024x6144) ![512, 1024] S512x1024.size inb_S1024x6144_S512x1024_512_1024, kernelRun.sl.dma12_1 c arg1 arg2 fl ft fw fb fc fm⟩,
    ⟨Rect.unit (s := S1024x6144) ![0, 1024] S512x1024.size inb_S1024x6144_S512x1024_0_1024, kernelRun.sl.dma12 c arg1 arg2 fl ft fw fb fc fm⟩,
    ⟨Rect.unit (s := S1024x6144) ![512, 0] S512x1024.size inb_S1024x6144_S512x1024_512_0, kernelRun.sl.dma8_1 c arg1 arg2 fl ft fw fb fc fm⟩,
    ⟨Rect.unit (s := S1024x6144) ![0, 0] S512x1024.size inb_S1024x6144_S512x1024_0_0, kernelRun.sl.dma8 c arg1 arg2 fl ft fw fb fc fm⟩]

/-- They cover the result. -/
theorem outPieces_cover (c : Dev nD) (arg1 : Memref sig .tc .vmem S1024x1 .i32) (arg2 : Memref sig .tc .vmem S1024x32 .f32)
    (fl : HbBuf (F := F) c arg1) (ft : HbBuf (F := F) c arg2) (fw : HbBuf (F := F) c wM) (fb : HbBuf (F := F) c obM)
    (fc : HbBuf (F := F) c compM) (fm : HbBuf (F := F) c meansM) (y : S1024x6144.Idx) :
    ∃ p ∈ outPieces c arg1 arg2 fl ft fw fb fc fm, y ∈ p.1.set :=
  View.cover_of_tiledL (outPieces c arg1 arg2 fl ft fw fb fc fm) S512x1024.size (by sl_kernel_rfl) y

/-- The run leaves the result written with these rectangles. -/
theorem kernelRun_pieces (c : Dev nD) (i : grid0.Coords)
    (arg1 : Memref sig .tc .vmem S1024x1 .i32) (harg1 : arg1.IsWhole) (arg2 : Memref sig .tc .vmem S1024x32 .f32) (harg2 : arg2.IsWhole)
    (fl : HbBuf (F := F) c arg1) (ft : HbBuf (F := F) c arg2)
    (fe : HbBuf (F := F) c eM) (fw : HbBuf (F := F) c wM) (fb : HbBuf (F := F) c obM)
    (fc : HbBuf (F := F) c compM) (fm : HbBuf (F := F) c meansM) (fo : HbBuf (F := F) c outM) :
    (kernelRun c i arg1 harg1 arg2 harg2 fl ft fe fw fb fc fm fo).1
      = outM.view.writes (Elt F) fo (outPieces c arg1 arg2 fl ft fw fb fc fm) := by
  unfold kernelRun outPieces
  dsimp only

set_option maxHeartbeats 1000000 in
/-- Each rectangle is written with the specified result's elements. -/
theorem outPieces_agree (c : Dev nD) (arg1 : Memref sig .tc .vmem S1024x1 .i32) (arg2 : Memref sig .tc .vmem S1024x32 .f32)
    (fl : HbBuf (F := F) c arg1) (ft : HbBuf (F := F) c arg2) (fw : HbBuf (F := F) c wM) (fb : HbBuf (F := F) c obM)
    (fc : HbBuf (F := F) c compM) (fm : HbBuf (F := F) c meansM) :
    ∀ p ∈ outPieces c arg1 arg2 fl ft fw fb fc fm, ∀ x : p.1.shape.Idx,
      p.2 x = outSpec (arg1.view.read (Elt F) fl) (arg2.view.read (Elt F) ft) fc fm (p.1.emb x) := by
  unfold outPieces
  simp only [List.forall_mem_cons, List.not_mem_nil, false_implies, implies_true, and_true]
  have E := v120_eq (F := F) c arg1 arg2 fl ft
  refine ⟨?_, ?_, ?_, ?_, ?_, ?_, ?_, ?_, ?_, ?_, ?_, ?_⟩
  · exact half_agrees obM 1 512 5120 _ _ 5 rfl (by rw [E, v331_eq]; rfl)
  · exact half_agrees obM 1 0 5120 _ _ 5 rfl (by rw [E, v331_eq]; rfl)
  · exact half_agrees obM 0 512 4096 _ _ 4 rfl (by rw [E, v289_eq]; rfl)
  · exact half_agrees obM 0 0 4096 _ _ 4 rfl (by rw [E, v289_eq]; rfl)
  · exact half_agrees obM 3 512 3072 _ _ 3 rfl (by rw [E, v247_eq]; rfl)
  · exact half_agrees obM 3 0 3072 _ _ 3 rfl (by rw [E, v247_eq]; rfl)
  · exact half_agrees obM 2 512 2048 _ _ 2 rfl (by rw [E, v215_eq]; rfl)
  · exact half_agrees obM 2 0 2048 _ _ 2 rfl (by rw [E, v215_eq]; rfl)
  · exact half_agrees obM 1 512 1024 _ _ 1 rfl (by rw [E, v168_eq]; rfl)
  · exact half_agrees obM 1 0 1024 _ _ 1 rfl (by rw [E, v168_eq]; rfl)
  · exact half_agrees obM 0 512 0 _ _ 0 rfl (by rw [E, v121_eq]; rfl)
  · exact half_agrees obM 0 0 0 _ _ 0 rfl (by rw [E, v121_eq]; rfl)

/-- What the run leaves in the result, from whatever the scratch buffers and the result held. -/
theorem kernelRun_eq (c : Dev nD) (i : grid0.Coords)
    (arg1 : Memref sig .tc .vmem S1024x1 .i32) (harg1 : arg1.IsWhole) (arg2 : Memref sig .tc .vmem S1024x32 .f32) (harg2 : arg2.IsWhole)
    (fl : HbBuf (F := F) c arg1) (ft : HbBuf (F := F) c arg2)
    (fe : HbBuf (F := F) c eM) (fw : HbBuf (F := F) c wM) (fb : HbBuf (F := F) c obM)
    (fc : HbBuf (F := F) c compM) (fm : HbBuf (F := F) c meansM) (fo : HbBuf (F := F) c outM) :
    (kernelRun c i arg1 harg1 arg2 harg2 fl ft fe fw fb fc fm fo).1
      = outSpec (arg1.view.read (Elt F) fl) (arg2.view.read (Elt F) ft) fc fm := by
  have whole : ∀ f : HbBuf (F := F) c outM, outM.view.read (Elt F) f = f := fun f => rfl
  refine (kernelRun_pieces c i arg1 harg1 arg2 harg2 fl ft fe fw fb fc fm fo).trans ?_
  rw [← whole (outM.view.writes (Elt F) fo (outPieces c arg1 arg2 fl ft fw fb fc fm))]
  have key : ∀ y : S1024x6144.Idx, outM.view.read (Elt F) (outM.view.writes (Elt F) fo (outPieces c arg1 arg2 fl ft fw fb fc fm)) y
      = outSpec (arg1.view.read (Elt F) fl) (arg2.view.read (Elt F) ft) fc fm y := fun y =>
    View.read_writes_apply_of_pieces outM.view fo _ _ (outPieces_agree c arg1 arg2 fl ft fw fb fc fm) y
      (outPieces_cover c arg1 arg2 fl ft fw fb fc fm y)
  exact funext key

end Cert.KernelIdeal.Hand

end
-- ==== Proof.KernelIdealLaunch.lean ====
/-
  The kernel's launch: @main up to the region, the body run at the one grid point, and what the whole program leaves —
  every argument as launched, every semaphore at zero, and the result at `res`: `outSpec` of the labels, the latents, the
  component rows and the padded means as the region finds them.
-/
module

public import proofs.«01_k».proof.Proof.KernelIdealValue

@[expose] public section

set_option maxRecDepth 16384

noncomputable section

namespace Cert.KernelIdeal.Hand

open Cert.KernelIdeal Cert.KernelIdeal.Gen Cert.Landing
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers the body reads and writes by its own transfers -/

/-- The operands the body's transfers read: the component rows and the padded means. -/
def H0 : Finset (Ref sig .tc) := {main_v0, main_v2}
/-- The buffer they write: the result. -/
def R0 : Finset (Ref sig .tc) := {main_v3}
theorem H0_sub : H0 ⊆ Pipeline.restRefs sig spec0 := by decide
theorem R0_sub : R0 ⊆ Pipeline.restRefs sig spec0 \ H0 := by decide

/-- The body's twenty transfer semaphores. -/
abbrev osem0 : Fin 20 → SemLoc sig := fun j => SemLoc.dma (⟨j.val + 2, by omega⟩ : Fin 22)
theorem ownSemFacts0 : Pipeline.OwnSemFacts spec0 osem0 := by decide

/-- They are at zero together exactly where each is. -/
theorem ownSems00_eq (c : Dev nD) :
    (Pipeline.ownSems0 (Ix := Unit) (Name := ℕ) (U := Pipeline.UD sig nD τ) (Lvl := ℕ) (Val := Elt F) (τ := τ) osem0 c : sProp 𝕄)
      = cells0 c := by
  rw [Pipeline.ownSems0_eq_of_list c osem0 [0, 1, 2, 3, 4, 5, 6, 7, 8, 9, 10, 11, 12, 13, 14, 15, 16, 17, 18, 19] (by decide) (by decide)]; rfl

/-- The operands read, each whole at what the region finds. -/
theorem hbmPts0_eq (c : Dev nD) :
    (bigSep H0 (fun b => ((c : Thread nD τ).loc b) ↦{fullShare} V m c b) : sProp 𝕄)
      = iprop(hbPt c compM (V m c main_v0) ∗ hbPt c meansM (V m c main_v2)) := by
  rw [BI.bigSep_eq_bigSepL_of_eq [main_v0, main_v2] (by decide) (by decide)]; rfl

/-- The result, whole at the given contents. -/
theorem routed0_eq (c : Dev nD) (G : (b : Ref sig .tc) → Buf (Elt F) ((c : Thread nD τ).loc b)) :
    (Pipeline.routed R0 c G : sProp 𝕄) = hbPt c outM (G main_v3) := by
  unfold Pipeline.routed
  rw [BI.bigSep_eq_bigSepL_of_eq [main_v3] (by decide) (by decide)]; rfl

/-- The invariant at a grid point's ends, conjunct by conjunct. -/
theorem PhiDRG0_eq (G : (c : Dev nD) → (b : Ref sig .tc) → Buf (Elt F) ((c : Thread nD τ).loc b)) (c : Dev nD) :
    (Pipeline.ΦDRG osem0 spec0 H0 R0 (V m) G c : sProp 𝕄)
      = iprop(iprop((∃ f, hbPt c eM f) ∗ (∃ f, hbPt c wM f) ∗ (∃ f, hbPt c obM f))
          ∗ (∃ r, prngReg c r) ∗ cells0 c
          ∗ iprop(hbPt c compM (V m c main_v0) ∗ hbPt c meansM (V m c main_v2)) ∗ hbPt c outM (G c main_v3)) := by
  rw [Pipeline.ΦDRG_eq, scopedRest0_eq, ownSems00_eq, hbmPts0_eq, routed0_eq]

/-! ## @main up to the region -/

set_option maxHeartbeats 800000 in
/-- @main is its host operations, then the region at the contents `V` they leave. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-! ## The result -/

/-- The result: `outSpec` of the staged labels and latents, the component rows and the padded means. -/
def res (c : Dev nD) : Vec F S1024x6144 .f32 :=
  outSpec (iblk m c 0 t0_0) (iblk m c 1 t0_0) (V m c main_v0) (V m c main_v2)

/-- The unscoped buffers after the region: the result at `res`, every other as the region found it. -/
def V' (c : Dev nD) : (b : Ref sig .tc) → Buf (Elt F) ((c : Thread nD τ).loc b) := Function.update (V m c) main_v3 (res m c)

theorem V'_main_v3 (c : Dev nD) : V' m c main_v3 = res m c := Function.update_self ..

/-! ## The proof data and the body -/

/-- The proof data of the one pipeline on core `c`: the arrays as the region finds them, both staged blocks left in place,
    the invariant with the result at its earlier contents before the point and at `res` after it, nothing owed, full
    shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ p := if p.val = 0 then Pipeline.ΦDRG osem0 spec0 H0 R0 (V m) (V m) c else Pipeline.ΦDRG osem0 spec0 H0 R0 (V m) (V' m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)

/-- The staging memrefs of the labels and of the latents. -/
abbrev ms0_0 (t : Fin cfg0.N) : Memref sig .tc .vmem S1024x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x32 .f32 := win0_1.stage (cfg0.slots t 1)
abbrev hs0_1 (t : Fin cfg0.N) : (ms0_1 t).IsWhole := hstage0_1 ((cfg0.slots t 1).cast nbuf0_1)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- At the one grid point the body takes the invariant before it to the invariant after it, with the staged blocks left in
    place and nothing owed. -/
theorem sound_body (c : Dev nD) (t : Fin cfg0.N) :
    bodyPre m c t ⊢ wp frame (wpE (defs₀ (F := F)) Variants.none c none) Set.univ (bodyAt0 t) (fun _ => bodyPost m c t) := by
  obtain rfl : t = t0_0 := fin_N0 t
  unfold bodyPre bodyPost bodyAt0
  rw [show (dats m 0 c).Φ t0_0.succ = Pipeline.ΦDRG osem0 spec0 H0 R0 (V m) (V' m) c from rfl,
    show (dats m 0 c).Φ t0_0.castSucc = Pipeline.ΦDRG osem0 spec0 H0 R0 (V m) (V m) c from rfl,
    PhiDRG0_eq, PhiDRG0_eq, after0_0, after0_1, V'_main_v3]
  simp only [before0_0, before0_1]
  unfold Dat.owesAt Pipeline.owesWithin
  rw [show (dats m 0 c).owed t0_0.castSucc = 0 from rfl, show (dats m 0 c).owed t0_0.succ = 0 from rfl]
  unfold owns
  iintro ⟨⟨⟨⟨%fe, HE⟩, ⟨%fw, HWB⟩, ⟨%fb, HOB⟩⟩, Hg, Hq, ⟨HC, HM⟩, HO⟩, ⟨%W, -, HW⟩, ⟨%d0, %fl, %el, H1⟩, ⟨%d1, %ft, %et, H2⟩⟩
  have run := (kernelRun c (grid0.coords t0_0) (ms0_0 t0_0) (hs0_0 t0_0) (ms0_1 t0_0) (hs0_1 t0_0) fl ft fe fw fb
    (V m c main_v0) (V m c main_v2) (V m c main_v3)).2 W
  rw [kernelRun_eq, el, et] at run
  iapply (run _)
  isplitl [H1]; · iexact H1
  isplitl [H2]; · iexact H2
  isplitl [HE]; · iexact HE
  isplitl [HWB]; · iexact HWB
  isplitl [HOB]; · iexact HOB
  isplitl [Hq]; · iexact Hq
  isplitl [HC]; · iexact HC
  isplitl [HM]; · iexact HM
  isplitl [HO]; · iexact HO
  isplitl [HW]; · iexact HW
  iintro ⟨H1, H2, HE, HWB, HOB, Hq, HC, HM, HO, ⟨%W', HW'⟩⟩
  isplitl [HE HWB HOB Hg Hq HC HM HO]
  · isplitl [HE HWB HOB]
    · isplitl [HE]; · iexact HE
      isplitl [HWB]; · iexact HWB
      iexact HOB
    isplitl [Hg]; · iexact Hg
    isplitl [Hq]; · iexact Hq
    isplitl [HC HM]
    · isplitl [HC]; · iexact HC
      iexact HM
    iexact HO
  isplitl [HW']
  · iexists W'; isplitr; · ipureintro; exact fun _ _ => Or.inl trivial
    iexact HW'
  isplitl [H1]
  · iexists fl; isplitr; swap; · iexact H1
    ipureintro; exact el
  iexists ft; isplitr; swap; · iexact H2
  ipureintro; exact et

theorem defs₀_row (t : Fin cfg0.N) :
    defs₀ (F := F) .tc cfg0.body (cfg0.bodyArgs t (cfg0.slots t)) = bodyAt0 t := by
  unfold defs₀; rw [Defs.onTc_tc]

/-- The body's obligation to the pipeline. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- The program runs to the staged arrays and every other unscoped buffer as the region found them, the result at `res`,
    and every semaphore at zero. -/
theorem run_post : θ_run defs (onTc (τ := τ) (main (F := F))) (s₀ m ρ)
    (fun r => Pipeline.FramePostRG cfgs (dats m) 0 R0 (V m) (V' m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := V' m)
    (hin := fun _ => .rfl) (hout := fun _ => .rfl)

/-- THE RUN: from any launch the kernel's program terminates with its result at `res`, every argument array unchanged and
    every semaphore at zero. -/
theorem run : θ_run defs (onTc (τ := τ) (main (F := F))) ⟨m, fun _ => 0, ρ⟩ (fun r =>
    (∀ c : Dev nD, r.2.mem ((c.tc : Thread nD τ).loc main_v3) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c =>
    have hrest : ∀ b : Ref sig .tc, b ∈ Pipeline.restRefs sig spec0 \ R0 → r.2.mem ((c.tc : Thread nD τ).loc b) = V m c b := (h.1.1 c).2
    ⟨(h.1.2 c main_v3 (by decide)).trans (V'_main_v3 m c),
      ((h.1.1 c).1 1).trans (((dats m 0 c).arrAt_in 1 rfl _).trans ((A_eq m c 1).trans (V_main_arg0 m c))),
      (hrest main_arg1 (by decide)).trans (V_main_arg1 m c),
      (hrest main_arg2 (by decide)).trans (V_main_arg2 m c),
      (hrest main_arg3 (by decide)).trans (V_main_arg3 m c)⟩, h.2⟩) (run_post m ρ)

end Cert.KernelIdeal.Hand

end
-- ==== Proof.KernelFrame.lean ====
/- The kernel over float words. Its text and the ideal program's are the same but for the type of the floats, and the run of
   `KernelIdealLaunch` is proved for any such type: taken at the words, it is the kernel's. -/
module

public import proofs.«01_k».proof.Defs
public import proofs.«01_k».proof.Proof.Gen.Kernel
public import proofs.«01_k».proof.Proof.KernelIdealLaunch

@[expose] public section

noncomputable section

namespace Cert.Kernel.Hand

open Idealize.ShloMosaic Idealize.SL.Sem

attribute [local instance] Cert.Kernel.Gen.facts Cert.KernelIdeal.Gen.facts

variable {F : FTy → Type} [FloatOps F]

/-- The two programs have one table of bodies. -/
theorem bodies_eq : Cert.Kernel.defs₀ (F := F) = Cert.KernelIdeal.defs₀ (F := F) := by
  refine congrArg Defs.onTc (funext fun ℓ => funext fun x => ?_)
  match ℓ, x with
  | 0, (t, s) => with_unfolding_all rfl

/-- The two programs have one table of functions. -/
theorem defs_eq : Cert.Kernel.defs (F := F) = Cert.KernelIdeal.defs (F := F) :=
  congrArg (Pipeline.defs Cert.KernelIdeal.pcfgs) bodies_eq

/-- The kernel ends with its arguments as launched and every semaphore at zero. -/
theorem frame : Cert.quiescent_Kernel := fun m g _ => by
  have h := Cert.KernelIdeal.Hand.run (F := Bits) m g
  rw [← defs_eq] at h
  exact (θ_run _ _ _).mono (fun _ h => ⟨fun c => (h.1 c).2, h.2⟩) h

end Cert.Kernel.Hand

end
-- ==== Proof.Values.lean ====
/-
  Three vector operations read at an index: a concatenation of copies of one array, a conjunction over an axis, and the
  quotient by 32 that counts the tables' rows.
-/
module

public import Idealize.ShloMosaic.Lib.Pointwise
public import Idealize.ShloMosaic.Lib.WordCmp

@[expose] public section

noncomputable section

namespace Cert.Values

open Idealize.ShloMosaic

/-- Copies of one array side by side, read at column `c`: the array at column `c % w`. -/
theorem copies_at {α : Type} {R w C : Nat} (v : (⟨2, ![R, w]⟩ : Shape).Idx → α) (hw : 0 < w) (b : Fin R) (y : Fin C)
    (xs : List ((s : Shape) × (s.Idx → α))) (hx : ∀ p ∈ xs, p = ⟨⟨2, ![R, w]⟩, v⟩)
    (hs : ∀ s ∈ xs.map (·.1), s.FitsOff ⟨2, ![R, C]⟩ 1) (c : Nat) (hc : c < (axisSizes ⟨2, ![R, C]⟩ 1 xs).sum) :
    concatenateAt ⟨2, ![R, C]⟩ 1 (ix2 b y) xs hs c hc = v (ix2 b ⟨c % w, Nat.mod_lt _ hw⟩) := by
  have first : ∀ (c : Nat) (i : (⟨2, ![R, w]⟩ : Shape).Idx), (i 0).val = b.val → (i 1).val = c → c < w →
      v (Shape.Idx.norm i) = v (ix2 b ⟨c % w, Nat.mod_lt _ hw⟩) := by
    intro c i h0 h1 hcw
    rw [Shape.Idx.norm2]
    exact congrArg v (congrArg₂ ix2 (Fin.ext h0) (Fin.ext (h1.trans (Nat.mod_eq_of_lt hcw).symm)))
  induction xs generalizing c with
  | nil => exact absurd hc (Nat.not_lt_zero _)
  | cons p xs ih =>
    obtain rfl := hx p List.mem_cons_self
    cases xs with
    | nil =>
      rw [concatenateAt_singleton]
      exact first c _ rfl rfl (by simpa [axisSizes] using hc)
    | cons q xs =>
      rw [concatenateAt_cons]
      by_cases h : c < w
      · refine (dif_pos h).trans ?_
        exact first c _ rfl rfl h
      · refine (dif_neg h).trans ?_
        refine (ih (fun r hr => hx r (List.mem_cons_of_mem _ hr)) _ _ _).trans ?_
        refine congrArg (fun k => v (ix2 b k)) (Fin.ext ?_)
        exact (Nat.mod_eq_sub_mod (Nat.le_of_not_lt h)).symm

/-- A conjunction over axes is one exactly where the initial bit and every bit that drops to the index are. -/
theorem reduce_and_iff {s t u : Shape} {axes : List (Fin s.rank)} (x : IVec s 1) (init : IVec u 1)
    (h : s.ReducesTo axes t) (hu : 0 < u.numel) (j : t.Idx) :
    Host.reduce IntOp.andi x init h hu j = 1#1 ↔ init (Shape.Idx.first hu) = 1#1 ∧ ∀ i, h.drop i = j → x i = 1#1 := by
  have and1 : ∀ a b : BitVec 1, IntOp.andi a b = 1#1 ↔ a = 1#1 ∧ b = 1#1 := by decide
  have fold : ∀ (l : List (Fin s.numel)) (r : BitVec 1),
      l.foldl (fun r n => IntOp.andi r (x (s.rowMajor.symm n))) r = 1#1 ↔ r = 1#1 ∧ ∀ n ∈ l, x (s.rowMajor.symm n) = 1#1 := by
    intro l
    induction l with
    | nil => intro r; simp
    | cons n l ih => intro r; rw [List.foldl_cons, ih, and1, List.forall_mem_cons, and_assoc]
  unfold Host.reduce
  rw [fold]
  refine and_congr_right fun _ => ⟨fun H i hi => ?_, fun H n hn => ?_⟩
  · have := H (s.rowMajor i) (List.mem_filter.2 ⟨List.mem_finRange _, by simpa using hi⟩)
    rwa [Equiv.symm_apply_apply] at this
  · exact H _ (by simpa using (List.mem_filter.1 hn).2)

end Cert.Values

end
-- ==== Proof.KernelIdealFormula.lean ====
/-
  The kernel's result over the extended reals, entry by entry: where a row's label is in range, the row's latents against
  the label's components plus the label's mean.
-/
module

public import proofs.«01_k».proof.Proof.KernelIdealValue
public import proofs.«01_k».proof.Proof.Values

@[expose] public section

noncomputable section

namespace Cert.KernelIdeal.Hand

open Cert.KernelIdeal Cert.KernelIdeal.Gen Cert.Landing Cert.Values
open Idealize.ShloMosaic

/-- The group a column belongs to, as the kernel's integer arithmetic finds it: the rounded-down quotient by 32 of a column
    under 640, the distance from 640 of a later one. -/
theorem group_word : ∀ j : Fin 672,
    Scalar.select (IntOp.cmpi .slt (BitVec.ofNat 32 j.val) 640#32)
      (Scalar.select
        (IntOp.andi
          (IntOp.cmpi .ne
            (IntOp.subi (BitVec.setWidth 32 (IntOp.cmpi .sgt (BitVec.ofNat 32 j.val) 0#32))
              (BitVec.setWidth 32 (IntOp.cmpi .slt (BitVec.ofNat 32 j.val) 0#32)))
            (Scalar.subi (Scalar.extui (Scalar.cmpi .sgt 32#32 0#32)) (Scalar.extui (Scalar.cmpi .slt 32#32 0#32))))
          (IntOp.cmpi .ne (IntOp.remsi .vector (BitVec.ofNat 32 j.val) 32#32) 0#32))
        (IntOp.subi (IntOp.divsi .vector (BitVec.ofNat 32 j.val) 32#32) 1#32)
        (IntOp.divsi .vector (BitVec.ofNat 32 j.val) 32#32))
      (IntOp.subi (BitVec.ofNat 32 j.val) 640#32)
      = BitVec.ofNat 32 (if j.val < 640 then j.val / 32 else j.val - 640) := by
  decide +kernel

/-- The routed latents, entry by entry. -/
theorem eSpec_apply (lab : Vec Ideal S1024x1 .i32) (lat : Vec Ideal S1024x32 .f32) (b : Fin 1024) (j : Fin 672) :
    eSpec lab lat (ix2 b j) = if BitVec.ofNat 32 (if j.val < 640 then j.val / 32 else j.val - 640) = lab (ix2 b (0 : Fin 1))
      then (if j.val < 640 then lat (ix2 b ⟨j.val % 32, Nat.mod_lt _ (by decide)⟩) else 1) else 0 := by
  unfold eSpec k0_pay5
  generalize hc : concatenate S1024x672 1 _ _ = cc
  have hcc : cc (ix2 b j) = lat (ix2 b ⟨j.val % 32, Nat.mod_lt _ (by decide)⟩) := by
    rw [← hc, concatenate_apply]
    exact copies_at lat (by decide) b j _ (by simp) _ _ _
  have hlt : (BitVec.ofNat 32 j.val).toInt < (640#32 : BitVec 32).toInt ↔ j.val < 640 := by
    rw [WordCmp.toInt_ofNat_of_lt (by have := j.isLt; omega), show (640#32 : BitVec 32).toInt = 640 from by decide]
    omega
  pointwise [k0_pay1, k0_pay2, k0_pay3, k0_pay4]
  rw [hcc, group_word, WordCmp.cmpi_eq_eq, Scalar.select_decide, WordCmp.cmpi_slt_eq, Scalar.select_decide]
  simp only [hlt]

/-- A product of the routed latents with a column of the weights: the labelled group's rows against the latents, and the
    labelled row of the means. -/
theorem routed_sum (lat : Fin 32 → EReal) (n : Fin 20) (w : Fin 672 → EReal) (e : Fin 672 → EReal)
    (he : ∀ j : Fin 672, e j = if (if j.val < 640 then j.val / 32 else j.val - 640) = n.val
      then (if j.val < 640 then lat ⟨j.val % 32, Nat.mod_lt _ (by decide)⟩ else 1) else 0) :
    ∑ j, e j * w j = (∑ p : Fin 32, lat p * w ⟨n.val * 32 + p.val, by omega⟩) + w ⟨640 + n.val, by omega⟩ := by
  rw [Fin.sum_univ_two_halves 640 32 rfl, Fin.sum_univ_tiles 20 32 rfl]
  congr 1
  · rw [Finset.sum_eq_single n]
    · refine Finset.sum_congr rfl fun p _ => ?_
      rw [he, if_pos, if_pos (show n.val * 32 + p.val < 640 by omega)]
      · congr 2
        exact Fin.ext (show (n.val * 32 + p.val) % 32 = p.val by omega)
      · show (if n.val * 32 + p.val < 640 then (n.val * 32 + p.val) / 32 else _) = n.val
        rw [if_pos (by omega)]; omega
    · intro k _ hk
      refine Finset.sum_eq_zero fun p _ => ?_
      rw [he, if_neg, zero_mul]
      show ¬ (if k.val * 32 + p.val < 640 then (k.val * 32 + p.val) / 32 else _) = n.val
      rw [if_pos (by omega)]
      intro h
      exact hk (Fin.ext (by omega))
    · exact fun h => absurd (Finset.mem_univ _) h
  · rw [Finset.sum_eq_single (⟨n.val, by omega⟩ : Fin 32)]
    · rw [he, if_pos, if_neg (show ¬ 640 + n.val < 640 by omega), one_mul]
      show (if 640 + n.val < 640 then _ else 640 + n.val - 640) = n.val
      rw [if_neg (by omega)]; omega
    · intro k _ hk
      rw [he, if_neg, zero_mul]
      show ¬ (if 640 + k.val < 640 then _ else 640 + k.val - 640) = n.val
      rw [if_neg (by omega)]
      intro h
      exact hk (Fin.ext (show k.val = n.val by omega))
    · exact fun h => absurd (Finset.mem_univ _) h

/-- A column block of the result, entry by entry: a row of routed latents against a column of the weights. -/
theorem outBlock_apply (lab : Vec Ideal S1024x1 .i32) (lat : Vec Ideal S1024x32 .f32) (xc : Vec Ideal S640x6144 .f32)
    (xm : Vec Ideal S32x6144 .f32) (i : Fin 6) (b q : Fin 1024) :
    outBlock lab lat xc xm i (ix3 (0 : Fin 1) b q) = ∑ j : Fin 672, eSpec lab lat (ix2 b j) * wAt xc xm j (colOf i q) := by
  unfold outBlock
  pointwise [k0_pay6, wblk]

/-- THE RESULT, entry by entry, for a row whose label is `n < 20`: the row's latents against the label's components at the
    column, and the label's mean there. -/
theorem outSpec_apply (lab : Vec Ideal S1024x1 .i32) (lat : Vec Ideal S1024x32 .f32) (xc : Vec Ideal S640x6144 .f32)
    (xm : Vec Ideal S32x6144 .f32) (b : Fin 1024) (d : Fin 6144) (n : Fin 20)
    (hn : lab (ix2 b (0 : Fin 1)) = BitVec.ofNat 32 n.val) :
    outSpec lab lat xc xm (ix2 b d)
      = (∑ p : Fin 32, lat (ix2 b p) * xc (ix2 (⟨n.val * 32 + p.val, by omega⟩ : Fin 640) d))
        + xm (ix2 (⟨n.val, by omega⟩ : Fin 32) d) := by
  have hd : colOf ⟨d.val / 1024, by omega⟩ ⟨d.val % 1024, by omega⟩ = d := Fin.ext (Nat.div_add_mod d.val 1024)
  unfold outSpec
  rw [slab_apply _ _ b ⟨d.val % 1024, by omega⟩ ⟨d.val / 1024, by omega⟩ rfl (Nat.div_add_mod d.val 1024).symm, outBlock_apply, hd,
    routed_sum (fun p => lat (ix2 b p)) n (fun j => wAt xc xm j d) _ fun j => ?_]
  · congr 1
    · refine Finset.sum_congr rfl fun p _ => congrArg _ ?_
      exact dif_pos (show n.val * 32 + p.val < 640 by omega)
    · refine (dif_neg (show ¬ 640 + n.val < 640 by omega)).trans ?_
      exact congrArg xm (congrArg (fun k => ix2 k d) (Fin.ext (show 640 + n.val - 640 = n.val by omega)))
  · rw [eSpec_apply, hn]
    refine if_congr ?_ rfl rfl
    exact WordCmp.ofNat_eq_ofNat_iff (by have := j.isLt; split <;> omega) (by omega)

end Cert.KernelIdeal.Hand

end
-- ==== Proof.KernelIdealResult.lean ====
/-
  The kernel's result as a formula of its arguments: what the host operations stage before the launch, read at an index, put
  into the formula of the kernel's body.
-/
module

public import proofs.«01_k».proof.Proof.KernelIdealLaunch
public import proofs.«01_k».proof.Proof.KernelIdealFormula
public import Idealize.ShloMosaic.Lib.Pipeline.ValueKit
public import Idealize.ShloMosaic.Lib.Claim

@[expose] public section

noncomputable section

namespace Cert.KernelIdeal.Hand

open Cert.KernelIdeal Cert.KernelIdeal.Gen Cert.Landing Cert.Values
open Idealize.ShloMosaic Idealize.ShloMosaic.TcCoe

variable (m : (ℓ : Loc nD τ sig) → Buf (Elt Ideal) ℓ) (c : Dev nD)

/-- The four argument arrays as launched: the latents, the labels, the means and the components. -/
abbrev argLat : FVec Ideal S1024x32 .f32 := m ((c.tc : Thread nD τ).loc main_arg0)
abbrev argLab : IVec S1024 32 := m ((c.tc : Thread nD τ).loc main_arg1)
abbrev argMeans : FVec Ideal S20x6144 .f32 := m ((c.tc : Thread nD τ).loc main_arg2)
abbrev argComp : FVec Ideal S20x32x6144 .f32 := m ((c.tc : Thread nD τ).loc main_arg3)

/-- The staged labels are the column of labels. -/
theorem iblk_labels : iblk m c 0 t0_0 = V m c main_v1 :=
  Memref.read_access_unit_zero (Elt Ideal) main_v1
    (show (fun a => win0_0.index t0_0 a * main_v1.ty.shape.size a) = fun _ => 0 from
      funext fun a => by fin_cases a <;> decide) (fun a => by fin_cases a <;> decide) (V m c main_v1)

/-- The staged latents are the latents. -/
theorem iblk_latents : iblk m c 1 t0_0 = argLat m c :=
  (Memref.read_access_unit_zero (Elt Ideal) main_arg0
    (show (fun a => win0_1.index t0_0 a * main_arg0.ty.shape.size a) = fun _ => 0 from
      funext fun a => by fin_cases a <;> decide) (fun a => by fin_cases a <;> decide) (V m c main_arg0)).trans (V_main_arg0 m c)

/-- What the host operations leave: the labels as a column, the components with their two leading axes joined, and the means
    with twelve rows of zeros after the last. -/
theorem entry :
    V m c main_v1 = broadcastInDim S1024x1 ![0] bcast_S1024_S1024x1_0 (argLab m c)
    ∧ V m c main_v0 = shapeCast S640x6144 (argComp m c) shapeCasts_S20x32x6144_S640x6144
    ∧ V m c main_v2 = pad S32x6144 ![0, 0] ![12, 0] ![0, 0] (argMeans m c)
        (sitofp .f32 (constantI S_ 32 0#32)) pads_S20x6144_S32x6144_0120_000 h_S_ := by
  simp only [V, hostOps0, hostOps0_1, List.flatten_cons, List.flatten_nil, List.append_nil, List.cons_append, List.nil_append,
    StableHlo.TRef.unary, StableHlo.TRef.binary, StableHlo.TRef.toBuf, StableHlo.TRef.ofBuf, cast_eq]
  refine ⟨?_, ?_, ?_⟩ <;> after_results <;> rfl

/-- Row `b` of the column of labels is label `b`. -/
theorem labels_apply (b : Fin 1024) : V m c main_v1 (ix2 b (0 : Fin 1)) = argLab m c (ix1 b) := by
  rw [(entry m c).1]
  pointwise []

/-- Row `32 n + p` of the joined components is component `p` of class `n`. -/
theorem comps_apply (n : Fin 20) (p : Fin 32) (d : Fin 6144) :
    V m c main_v0 (ix2 (⟨n.val * 32 + p.val, by omega⟩ : Fin 640) d) = argComp m c (ix3 n p d) := by
  rw [(entry m c).2.1]
  pointwise []

/-- Row `n < 20` of the padded means is the mean of class `n`. -/
theorem means_apply (n : Fin 20) (d : Fin 6144) :
    V m c main_v2 (ix2 (⟨n.val, by omega⟩ : Fin 32) d) = argMeans m c (ix2 n d) := by
  rw [(entry m c).2.2]
  pointwise []

/-- THE KERNEL'S RESULT, entry by entry, for a row whose label is `n < 20`: the row's latents against the label's components
    at the column, and the label's mean there. -/
theorem res_apply (b : Fin 1024) (d : Fin 6144) (n : Fin 20)
    (hn : argLab m c (ix1 b) = BitVec.ofNat 32 n.val) :
    res m c (ix2 b d) = (∑ p : Fin 32, argLat m c (ix2 b p)
        * argComp m c (ix3 n p d)) + argMeans m c (ix2 n d) := by
  unfold res
  rw [iblk_labels, iblk_latents]
  refine (outSpec_apply _ _ _ _ b d n ((labels_apply m c b).trans hn)).trans ?_
  rw [means_apply]
  exact congrArg₂ (· + ·) (Finset.sum_congr rfl fun p _ => congrArg (argLat m c (ix2 b p) * ·) (comps_apply m c n p d)) rfl

end Cert.KernelIdeal.Hand

end
-- ==== Proof.ReferenceFormula.lean ====
/- What the reference computes. Its two takes read rows whose number is the label once the range test and the shift of
   negative labels have dropped out; its product and sum at (b, d) are then
   `Σ p, latent[b, p] * components[lab b, p, d] + means[lab b, d]`, and its run ends with the array of these values. -/
module

public import proofs.«01_k».proof.Proof.Gen.ReferenceIdeal.Run
public import proofs.«01_k».proof.Proof.Gen.Pre_in_range
public import proofs.«01_k».proof.Proof.Values

@[expose] public section

noncomputable section

namespace Cert.ReferenceIdeal.Hand

open Cert.ReferenceIdeal Cert.ReferenceIdeal.Gen Cert.Values
open Idealize.ShloMosaic Idealize.SL.Sem

variable {α : Type}

/-- A gather of whole slices at row numbers, read at an index: axis `a₀` of the table at the row number of the index's batch
    coordinate, every other axis at the index's offset coordinate. -/
theorem gather_slices {s t : Shape} {B : Nat} (d : GatherDims s ⟨2, ![B, 1]⟩ t) (x : s.Idx → α) (idx : IVec ⟨2, ![B, 1]⟩ 32)
    (j : t.Idx) (i : s.Idx) (b : Fin B) (a₀ : Fin s.rank) (k₀ : Fin t.rank) (hob : d.operandBatchingDims = [])
    (hcol : a₀ ∈ d.collapsedSliceDims) (hsim : d.startIndexMap = [a₀]) (hiv : d.indexVectorDim = 1)
    (hbatch : d.batchDims = [k₀]) (hb : (j k₀).val = b.val)
    (hrow : (idx (ix2 b (0 : Fin 1))).toInt.toNat = (i a₀).val) (hle : (i a₀).val ≤ s.size a₀ - d.sliceSizes a₀)
    (hoff : ∀ a, a ≠ a₀ → ∃ k, a ∈ d.sKept ∧ d.offsetDims[d.sKept.idxOf a]? = some k ∧ (j k).val = (i a).val) :
    Host.gather d x idx j = x i := by
  unfold Host.gather
  refine congrArg x (funext fun a => Fin.ext ?_)
  show d.start j idx a + d.batchCoord j a + d.offCoord j a = (i a).val
  rw [d.batchCoord_eq_zero j a (by rw [hob]; exact List.not_mem_nil), Nat.add_zero]
  by_cases ha : a = a₀
  · subst ha
    rw [d.offCoord_eq_zero j a (fun h => ((d.mem_sKept a).1 h).1 hcol), Nat.add_zero]
    unfold GatherDims.start
    rw [dif_pos (by rw [hsim]; exact List.mem_singleton.2 rfl)]
    have e : ∀ c, d.siIdx j c = ix2 b (0 : Fin 1) := by
      intro c
      funext k
      apply Fin.ext
      match k with
      | ⟨0, _⟩ =>
        unfold GatherDims.siIdx
        rw [dif_neg (by rw [hiv]; exact Nat.zero_ne_one)]
        unfold GatherDims.siCoord
        rw [Fin.val_cast]
        have hk : ∀ k ∈ d.batchDims, k = k₀ := fun k h => by rw [hbatch] at h; exact List.mem_singleton.1 h
        rw [hk _ (List.getElem_mem _)]
        exact hb
      | ⟨1, h1⟩ =>
        have := (d.siIdx j c ⟨1, h1⟩).isLt
        exact Nat.lt_one_iff.1 this
    rw [e, hrow]
    exact Nat.min_eq_left hle
  · obtain ⟨k, hk, hget, hv⟩ := hoff a ha
    have h0 : d.start j idx a = 0 := by
      unfold GatherDims.start
      exact dif_neg (by rw [hsim]; exact fun h => ha (List.mem_singleton.1 h))
    rw [h0, Nat.zero_add]
    unfold GatherDims.offCoord
    rw [dif_pos hk]
    obtain ⟨_, hg⟩ := List.getElem?_eq_some_iff.1 hget
    rw [hg]
    exact hv

/-- A row of the means, gathered at a row number in range. -/
theorem gather_mean (x : S20x6144.Idx → α) (idx : IVec S1024x1 32) (b : Fin 1024) (d : Fin 6144) (n : Fin 20)
    (hn : idx (ix2 b (0 : Fin 1)) = BitVec.ofNat 32 n.val) :
    Host.gather gather_S20x6144_S1024x1_S1024x6144_1_0_n_n_0_1_16144 x idx (ix2 b d) = x (ix2 n d) := by
  refine gather_slices _ x idx (ix2 b d) (ix2 n d) b 0 0 rfl (List.mem_singleton.2 rfl) rfl rfl (by decide) rfl ?_ ?_ ?_
  · rw [hn, WordCmp.toInt_ofNat_of_lt (by omega)]; rfl
  · exact Nat.le_of_lt_succ n.isLt
  · intro a ha
    match a, ha with
    | 0, h => exact absurd rfl h
    | 1, _ => exact ⟨1, by decide, by decide, rfl⟩

/-- A matrix of components, gathered at a row number in range. -/
theorem gather_comp (x : S20x32x6144.Idx → α) (idx : IVec S1024x1 32) (b : Fin 1024) (p : Fin 32) (d : Fin 6144) (n : Fin 20)
    (hn : idx (ix2 b (0 : Fin 1)) = BitVec.ofNat 32 n.val) :
    Host.gather gather_S20x32x6144_S1024x1_S1024x32x6144_12_0_n_n_0_1_1326144 x idx (ix3 b p d) = x (ix3 n p d) := by
  refine gather_slices _ x idx (ix3 b p d) (ix3 n p d) b 0 0 rfl (List.mem_singleton.2 rfl) rfl rfl (by decide) rfl ?_ ?_ ?_
  · rw [hn, WordCmp.toInt_ofNat_of_lt (by omega)]; rfl
  · exact Nat.le_of_lt_succ n.isLt
  · intro a ha
    match a, ha with
    | 0, h => exact absurd rfl h
    | 1, _ => exact ⟨1, by decide, by decide, rfl⟩
    | 2, _ => exact ⟨2, by decide, by decide, rfl⟩

/-- The row numbers a lookup reads: a label counted from the end where it is negative, else the label. -/
def rows (lab : IVec S1024 32) : IVec S1024x1 32 :=
  broadcastInDim S1024x1 ![0] bcast_S1024_S1024x1_0 (select (cmpi .slt lab (broadcastInDim S1024 ![] bcast_S_S1024 (constantI S_ 32 0#32)))
    (addi lab (broadcastInDim S1024 ![] bcast_S_S1024 (constantI S_ 32 20#32))) lab)

/-- Where a lookup finds its row: the row number is between zero and nineteen. -/
def found (lab : IVec S1024 32) : IVec S1024 1 :=
  Host.reduce IntOp.andi (andi (cmpi .sge (rows lab) (broadcastInDim S1024x1 ![] bcast_S_S1024x1 (constantI S_ 32 0#32)))
    (cmpi .sle (rows lab) (broadcastInDim S1024x1 ![0, 1] bcast_S1x1_S1024x1_0_1 (broadcastInDim S1x1 ![1] bcast_S1_S1x1_1 (constantI S1 32 19#32)))))
    (constantI S_ 1 1#1) reducesTo_S1024x1_S1024_d1 h_S_

/-- The reference's result as a function of its four arguments. -/
def refOut (lat : FVec Ideal S1024x32 .f32) (lab : IVec S1024 32) (means : FVec Ideal S20x6144 .f32)
    (comp : FVec Ideal S20x32x6144 .f32) : FVec Ideal S1024x6144 .f32 :=
  addf (Host.dotGeneral dot_S1024x32_S1024x32x6144_S1024x6144_1_1_n_2_0_0 none lat
      (select (broadcastInDim S1024x32x6144 ![0] bcast_S1024_S1024x32x6144_0 (found lab))
        (Host.gather gather_S20x32x6144_S1024x1_S1024x32x6144_12_0_n_n_0_1_1326144 comp (rows lab))
        (broadcastInDim S1024x32x6144 ![] bcast_S_S1024x32x6144 (constant S_ .f32 0x7FC00000#32))))
    (select (broadcastInDim S1024x6144 ![0] bcast_S1024_S1024x6144_0 (found lab))
      (Host.gather gather_S20x6144_S1024x1_S1024x6144_1_0_n_n_0_1_16144 means (rows lab))
      (broadcastInDim S1024x6144 ![] bcast_S_S1024x6144 (constant S_ .f32 0x7FC00000#32)))

/-- The row number of a label in range is the label. -/
theorem rows_apply (lab : IVec S1024 32) (b : Fin 1024) (n : Fin 20) (hn : lab (ix1 b) = BitVec.ofNat 32 n.val) :
    rows lab (ix2 b (0 : Fin 1)) = BitVec.ofNat 32 n.val := by
  unfold rows
  pointwise []
  rw [hn]
  clear hn
  revert n
  decide

/-- A label in range is found. -/
theorem found_apply (lab : IVec S1024 32) (b : Fin 1024) (n : Fin 20) (hn : lab (ix1 b) = BitVec.ofNat 32 n.val) :
    found lab (ix1 b) = 1#1 := by
  unfold found
  refine (reduce_and_iff _ _ _ _ _).2 ⟨rfl, fun i hi => ?_⟩
  have hi' : i = ix2 b (0 : Fin 1) := by
    rw [eq_ix2 i]
    refine congrArg₂ ix2 ?_ (Subsingleton.elim _ _)
    exact congrFun hi (0 : Fin 1)
  subst hi'
  pointwise []
  rw [rows_apply lab b n hn]
  clear hn
  revert n
  decide

/-- THE REFERENCE, entry by entry, for a row whose label is `n < 20`: the row's latents against the label's components at the
    column, and the label's mean there. -/
theorem refOut_apply (lat : FVec Ideal S1024x32 .f32) (lab : IVec S1024 32) (means : FVec Ideal S20x6144 .f32)
    (comp : FVec Ideal S20x32x6144 .f32) (b : Fin 1024) (d : Fin 6144) (n : Fin 20) (hn : lab (ix1 b) = BitVec.ofNat 32 n.val) :
    refOut lat lab means comp (ix2 b d) = (∑ p : Fin 32, lat (ix2 b p) * comp (ix3 n p d)) + means (ix2 n d) := by
  have hr := rows_apply lab b n hn
  have hf := found_apply lab b n hn
  unfold refOut
  pointwise []
  rw [hf]
  simp only [gather_comp comp (rows lab) b _ d n hr, gather_mean means (rows lab) b d n hr]
  simp only [ValueIdx.select_one]

/-- THE RUN of the reference with its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = refOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ

end Cert.ReferenceIdeal.Hand

end
-- ==== Proof.lean ====
/- The claims assembled: the three frames, the passage to the extended reals, and the equality of the kernel's result with the
   reference's for labels in range. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelFrame
public import proofs.«01_k».proof.Proof.KernelIdealResult
public import proofs.«01_k».proof.Proof.ReferenceFormula
public import proofs.«01_k».proof.Proof.Gen.Pre_in_range
public import Idealize.ShloMosaic.Adequacy
public import Idealize.ShloMosaic.Init

@[expose] public section

noncomputable section

namespace Cert.Proof

open Idealize.ShloMosaic Idealize.SL.Sem Cert.Kernel

attribute [local instance] Cert.Kernel.Gen.facts Cert.KernelIdeal.Gen.facts Cert.ReferenceIdeal.Gen.facts Cert.Pre_in_range.Gen.facts

/-- Labels that pass the range check are class numbers under twenty. -/
theorem label_of_pre (lat : FVec Ideal Cert.Pre_in_range.S1024x32 .f32) (lab : IVec Cert.Pre_in_range.S1024 32)
    (means : FVec Ideal Cert.Pre_in_range.S20x6144 .f32) (comp : FVec Ideal Cert.Pre_in_range.S20x32x6144 .f32)
    (h : Cert.Pre_in_range.fn (F := Ideal) lat lab means comp = fun _ => 1#1) (b : Fin 1024) :
    ∃ n : Fin 20, lab (ix1 b) = BitVec.ofNat 32 n.val := by
  have and1 : ∀ p q : BitVec 1, IntOp.andi p q = 1#1 → p = 1#1 ∧ q = 1#1 := by decide
  obtain ⟨hge, hlt⟩ := and1 _ _ (congrFun h ix0)
  have hge' := ((Cert.Values.reduce_and_iff _ _ _ _ _).1 hge).2 (ix1 b) (Subsingleton.elim _ _)
  have hlt' := ((Cert.Values.reduce_and_iff _ _ _ _ _).1 hlt).2 (ix1 b) (Subsingleton.elim _ _)
  have h0 : (0#32 : BitVec 32).toInt ≤ (lab (ix1 b)).toInt := by
    have e : IntOp.cmpi .sge (lab (ix1 b)) 0#32 = 1#1 := hge'
    rwa [WordCmp.cmpi_sge_eq, WordCmp.ofBool_decide_eq_one_iff] at e
  have h1 : (lab (ix1 b)).toInt < (20#32 : BitVec 32).toInt := by
    have e : IntOp.cmpi .slt (lab (ix1 b)) 20#32 = 1#1 := hlt'
    rwa [WordCmp.cmpi_slt_eq, WordCmp.ofBool_decide_eq_one_iff] at e
  rw [show (0#32 : BitVec 32).toInt = 0 from by decide] at h0
  rw [show (20#32 : BitVec 32).toInt = 20 from by decide] at h1
  refine ⟨⟨(lab (ix1 b)).toInt.toNat, by omega⟩, BitVec.eq_of_toInt_eq ?_⟩
  rw [WordCmp.toInt_ofNat_of_lt (show (lab (ix1 b)).toInt.toNat < 2 ^ (32 - 1) by omega)]
  omega

/-- With every label under twenty the kernel's result is the reference's. -/
theorem res_eq_refOut (m : (ℓ : Loc Cert.KernelIdeal.nD Cert.KernelIdeal.τ Cert.KernelIdeal.sig) → Buf (Elt Ideal) ℓ)
    (c : Dev Cert.KernelIdeal.nD)
    (hlab : ∀ b : Fin 1024, ∃ n : Fin 20, Cert.KernelIdeal.Hand.argLab m c (ix1 b) = BitVec.ofNat 32 n.val) :
    Cert.KernelIdeal.Hand.res m c = Cert.ReferenceIdeal.Hand.refOut (Cert.KernelIdeal.Hand.argLat m c)
      (Cert.KernelIdeal.Hand.argLab m c) (Cert.KernelIdeal.Hand.argMeans m c) (Cert.KernelIdeal.Hand.argComp m c) := by
  funext y
  rw [eq_ix2 y]
  obtain ⟨n, hn⟩ := hlab (y 0)
  exact (Cert.KernelIdeal.Hand.res_apply m c (y 0) (y 1) n hn).trans
    (Cert.ReferenceIdeal.Hand.refOut_apply _ _ _ _ (y 0) (y 1) n hn).symm

/-- The kernel over the extended reals ends with its arguments as launched and every semaphore at zero. -/
theorem kernelIdeal_frame : Cert.quiescent_KernelIdeal := fun m g _ =>
  (θ_run _ _ _).mono (fun _ h => ⟨fun c => (h.1 c).2, h.2⟩) (Cert.KernelIdeal.Hand.run m g)

/-- The reference ends with its arguments as launched and every semaphore at zero. -/
theorem reference_frame : Cert.quiescent_ReferenceIdeal := fun m g _ =>
  (θ_run _ _ _).mono (fun r h => ⟨fun c => (h c).2, sem_eq_zero_of_no_sems (by decide) r.2⟩) (Cert.ReferenceIdeal.Hand.run m g)

/-- With every label in range, the kernel and the reference end with equal results. -/
theorem algebraic : Cert.algebraic_KernelIdeal_ReferenceIdeal_pre_in_range := fun m g m' g' hpre hargs =>
  ⟨fun c => Cert.KernelIdeal.Hand.res m c,
    (θ_run _ _ _).mono (fun _ h => h.1) (Cert.KernelIdeal.Hand.run m g),
    (θ_run _ _ _).mono (fun _ h c => ⟨(h c).1.trans (by
      obtain ⟨h0, h1, h2, h3⟩ := hargs c
      rw [h0, h1, h2, h3]
      exact (res_eq_refOut m c (label_of_pre _ _ _ _ (hpre c))).symm), (h c).2⟩) (Cert.ReferenceIdeal.Hand.run m' g')⟩

/-- Every claim of the certificate. -/
theorem claim : Cert.Claim :=
  ⟨Cert.Kernel.Gen.facts, Cert.KernelIdeal.Gen.facts, Cert.ReferenceIdeal.Gen.facts, Cert.Pre_in_range.Gen.facts,
    Cert.Kernel.Hand.frame, kernelIdeal_frame, fun m g _ => kernelIdeal_frame m g trivial,
    reference_frame, fun m g _ => reference_frame m g trivial,
    trivial, algebraic⟩

end Cert.Proof

end
